-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S128x1x4096 : Shape := ⟨3, ![128, 1, 4096]⟩
abbrev S2048x11008 : Shape := ⟨2, ![2048, 11008]⟩
abbrev S256x11008 : Shape := ⟨2, ![256, 11008]⟩
abbrev S44032x128 : Shape := ⟨2, ![44032, 128]⟩
abbrev S11008x128 : Shape := ⟨2, ![11008, 128]⟩
abbrev S524288 : Shape := ⟨1, ![524288]⟩
abbrev S2818048 : Shape := ⟨1, ![2818048]⟩
abbrev S3342336 : Shape := ⟨1, ![3342336]⟩
abbrev S_ : Shape := ⟨0, ![]⟩

class Facts : Prop where
  shapeCasts_S128x1x4096_S524288 : S128x1x4096.ShapeCasts S524288
  shapeCasts_S256x11008_S2818048 : S256x11008.ShapeCasts S2818048
  concatenates_S524288_S2818048_S3342336_d0 : Shape.Concatenates [S524288, S2818048] S3342336 0
  bcast_S_S3342336 : S_.BroadcastsInDim S3342336 (![] : Fin 0 → Fin S3342336.rank)

variable [Facts]

def fn {F : FTy → Type} [FloatOps F] (main_arg0 : FVec F S128x1x4096 .bf16) (main_arg1 : IVec S2048x11008 8) (main_arg2 : FVec F S256x11008 .bf16) (main_arg3 : IVec S256x11008 8) (main_arg4 : IVec S44032x128 32) (main_arg5 : FVec F S11008x128 .f32) : IVec S3342336 1 :=
  let main_v0 : FVec F S524288 .bf16 := shapeCast S524288 main_arg0 shapeCasts_S128x1x4096_S524288
  let main_v1 : FVec F S2818048 .bf16 := shapeCast S2818048 main_arg2 shapeCasts_S256x11008_S2818048
  let main_v2 : FVec F S3342336 .bf16 := (fun a b => concatenate S3342336 0 [⟨S524288, a⟩, ⟨S2818048, b⟩] concatenates_S524288_S2818048_S3342336_d0) main_v0 main_v1
  let main_v3 : FVec F S3342336 .bf16 := Host.absf main_v2
  let main_cst : FVec F S_ .bf16 := constant S_ .bf16 0x7F80#16
  let main_v4 : FVec F S3342336 .bf16 := broadcastInDim S3342336 ![] bcast_S_S3342336 main_cst
  let main_v5 : IVec S3342336 1 := cmpf .olt main_v3 main_v4
  main_v5
-- ==== Kernel.lean ====
abbrev S128x1x4096 : Shape := ⟨3, ![128, 1, 4096]⟩
abbrev S2048x11008 : Shape := ⟨2, ![2048, 11008]⟩
abbrev S256x11008 : Shape := ⟨2, ![256, 11008]⟩
abbrev S44032x128 : Shape := ⟨2, ![44032, 128]⟩
abbrev S11008x128 : Shape := ⟨2, ![11008, 128]⟩
abbrev S128x4096 : Shape := ⟨2, ![128, 4096]⟩
abbrev S128x11008 : Shape := ⟨2, ![128, 11008]⟩
abbrev S2048x256 : Shape := ⟨2, ![2048, 256]⟩
abbrev S256x256 : Shape := ⟨2, ![256, 256]⟩
abbrev S1024x128 : Shape := ⟨2, ![1024, 128]⟩
abbrev S256x128 : Shape := ⟨2, ![256, 128]⟩
abbrev S128x256 : Shape := ⟨2, ![128, 256]⟩
abbrev S128x128 : Shape := ⟨2, ![128, 128]⟩
abbrev S8x128 : Shape := ⟨2, ![8, 128]⟩
abbrev S16x128 : Shape := ⟨2, ![16, 128]⟩
abbrev S16x256 : Shape := ⟨2, ![16, 256]⟩
abbrev S1x256 : Shape := ⟨2, ![1, 256]⟩

abbrev nBuf : Space → Nat
  | .hbm => 8
  | .vmem => 15
  | .smem => 0
  | _ => 0

abbrev bufTy : (tb : Table) → Fin (tcTables nBuf tb) → BufTy
  | .hbm, ⟨0, _⟩ => ⟨S128x1x4096, .bf16⟩
  | .hbm, ⟨1, _⟩ => ⟨S2048x11008, .i8⟩
  | .hbm, ⟨2, _⟩ => ⟨S256x11008, .bf16⟩
  | .hbm, ⟨3, _⟩ => ⟨S256x11008, .i8⟩
  | .hbm, ⟨4, _⟩ => ⟨S44032x128, .i32⟩
  | .hbm, ⟨5, _⟩ => ⟨S11008x128, .f32⟩
  | .hbm, ⟨6, _⟩ => ⟨S128x4096, .bf16⟩
  | .hbm, ⟨7, _⟩ => ⟨S128x11008, .bf16⟩
  | .local _ .vmem, ⟨0, _⟩ => ⟨S128x4096, .bf16⟩
  | .local _ .vmem, ⟨1, _⟩ => ⟨S2048x256, .i8⟩
  | .local _ .vmem, ⟨2, _⟩ => ⟨S2048x256, .i8⟩
  | .local _ .vmem, ⟨3, _⟩ => ⟨S256x256, .bf16⟩
  | .local _ .vmem, ⟨4, _⟩ => ⟨S256x256, .bf16⟩
  | .local _ .vmem, ⟨5, _⟩ => ⟨S256x256, .i8⟩
  | .local _ .vmem, ⟨6, _⟩ => ⟨S256x256, .i8⟩
  | .local _ .vmem, ⟨7, _⟩ => ⟨S1024x128, .i32⟩
  | .local _ .vmem, ⟨8, _⟩ => ⟨S1024x128, .i32⟩
  | .local _ .vmem, ⟨9, _⟩ => ⟨S256x128, .f32⟩
  | .local _ .vmem, ⟨10, _⟩ => ⟨S256x128, .f32⟩
  | .local _ .vmem, ⟨11, _⟩ => ⟨S128x256, .bf16⟩
  | .local _ .vmem, ⟨12, _⟩ => ⟨S128x256, .bf16⟩
  | .local _ .vmem, ⟨13, _⟩ => ⟨S256x256, .f32⟩
  | .local _ .vmem, ⟨14, _⟩ => ⟨S256x256, .f32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x1x4096 : Shape := ⟨3, ![128, 1, 4096]⟩
abbrev S2048x11008 : Shape := ⟨2, ![2048, 11008]⟩
abbrev S256x11008 : Shape := ⟨2, ![256, 11008]⟩
abbrev S44032x128 : Shape := ⟨2, ![44032, 128]⟩
abbrev S11008x128 : Shape := ⟨2, ![11008, 128]⟩
abbrev S_ : Shape := ⟨0, ![]⟩
abbrev S256x8x11008 : Shape := ⟨3, ![256, 8, 11008]⟩
abbrev S256x1x11008 : Shape := ⟨3, ![256, 1, 11008]⟩
abbrev S128x1x2048 : Shape := ⟨3, ![128, 1, 2048]⟩
abbrev S128x1x11008 : Shape := ⟨3, ![128, 1, 11008]⟩
abbrev S128x4096 : Shape := ⟨2, ![128, 4096]⟩
abbrev S86x32x2x8x128 : Shape := ⟨5, ![86, 32, 2, 8, 128]⟩
abbrev S32x8x2x86x128 : Shape := ⟨5, ![32, 8, 2, 86, 128]⟩
abbrev S512x11008 : Shape := ⟨2, ![512, 11008]⟩
abbrev S8 : Shape := ⟨1, ![8]⟩
abbrev S8x1x1 : Shape := ⟨3, ![8, 1, 1]⟩
abbrev S1x512x11008 : Shape := ⟨3, ![1, 512, 11008]⟩
abbrev S8x512x11008 : Shape := ⟨3, ![8, 512, 11008]⟩
abbrev S4096x11008 : Shape := ⟨2, ![4096, 11008]⟩
abbrev S128x11008 : Shape := ⟨2, ![128, 11008]⟩

abbrev nBuf : Space → Nat
  | .hbm => 73
  | .vmem => 0
  | .smem => 0
  | _ => 0

abbrev bufTy : (tb : Table) → Fin (tcTables nBuf tb) → BufTy
  | .hbm, ⟨0, _⟩ => ⟨S128x1x4096, .bf16⟩
  | .hbm, ⟨1, _⟩ => ⟨S2048x11008, .i8⟩
  | .hbm, ⟨2, _⟩ => ⟨S256x11008, .bf16⟩
  | .hbm, ⟨3, _⟩ => ⟨S256x11008, .i8⟩
  | .hbm, ⟨4, _⟩ => ⟨S44032x128, .i32⟩
  | .hbm, ⟨5, _⟩ => ⟨S11008x128, .f32⟩
  | .hbm, ⟨6, _⟩ => ⟨S2048x11008, .i32⟩
  | .hbm, ⟨7, _⟩ => ⟨S_, .i32⟩
  | .hbm, ⟨8, _⟩ => ⟨S2048x11008, .i32⟩
  | .hbm, ⟨9, _⟩ => ⟨S2048x11008, .i32⟩
  | .hbm, ⟨10, _⟩ => ⟨S_, .i32⟩
  | .hbm, ⟨11, _⟩ => ⟨S2048x11008, .i32⟩
  | .hbm, ⟨12, _⟩ => ⟨S2048x11008, .i32⟩
  | .hbm, ⟨13, _⟩ => ⟨S256x11008, .i32⟩
  | .hbm, ⟨14, _⟩ => ⟨S256x11008, .bf16⟩
  | .hbm, ⟨15, _⟩ => ⟨S2048x11008, .bf16⟩
  | .hbm, ⟨16, _⟩ => ⟨S256x8x11008, .bf16⟩
  | .hbm, ⟨17, _⟩ => ⟨S256x1x11008, .bf16⟩
  | .hbm, ⟨18, _⟩ => ⟨S256x8x11008, .bf16⟩
  | .hbm, ⟨19, _⟩ => ⟨S256x8x11008, .bf16⟩
  | .hbm, ⟨20, _⟩ => ⟨S256x1x11008, .bf16⟩
  | .hbm, ⟨21, _⟩ => ⟨S256x8x11008, .bf16⟩
  | .hbm, ⟨22, _⟩ => ⟨S256x8x11008, .bf16⟩
  | .hbm, ⟨23, _⟩ => ⟨S2048x11008, .bf16⟩
  | .hbm, ⟨24, _⟩ => ⟨S2048x11008, .bf16⟩
  | .hbm, ⟨25, _⟩ => ⟨S256x8x11008, .bf16⟩
  | .hbm, ⟨26, _⟩ => ⟨S256x1x11008, .bf16⟩
  | .hbm, ⟨27, _⟩ => ⟨S256x8x11008, .bf16⟩
  | .hbm, ⟨28, _⟩ => ⟨S256x8x11008, .bf16⟩
  | .hbm, ⟨29, _⟩ => ⟨S256x1x11008, .bf16⟩
  | .hbm, ⟨30, _⟩ => ⟨S256x8x11008, .bf16⟩
  | .hbm, ⟨31, _⟩ => ⟨S256x8x11008, .bf16⟩
  | .hbm, ⟨32, _⟩ => ⟨S2048x11008, .bf16⟩
  | .hbm, ⟨33, _⟩ => ⟨S128x1x2048, .bf16⟩
  | .hbm, ⟨34, _⟩ => ⟨S128x1x11008, .f32⟩
  | .hbm, ⟨35, _⟩ => ⟨S128x1x2048, .bf16⟩
  | .hbm, ⟨36, _⟩ => ⟨S128x1x11008, .f32⟩
  | .hbm, ⟨37, _⟩ => ⟨S128x1x11008, .f32⟩
  | .hbm, ⟨38, _⟩ => ⟨S128x4096, .bf16⟩
  | .hbm, ⟨39, _⟩ => ⟨S128x4096, .f32⟩
  | .hbm, ⟨40, _⟩ => ⟨S86x32x2x8x128, .i32⟩
  | .hbm, ⟨41, _⟩ => ⟨S32x8x2x86x128, .i32⟩
  | .hbm, ⟨42, _⟩ => ⟨S512x11008, .i32⟩
  | .hbm, ⟨43, _⟩ => ⟨S_, .i32⟩
  | .hbm, ⟨44, _⟩ => ⟨S512x11008, .i32⟩
  | .hbm, ⟨45, _⟩ => ⟨S512x11008, .i32⟩
  | .hbm, ⟨46, _⟩ => ⟨S512x11008, .i16⟩
  | .hbm, ⟨47, _⟩ => ⟨S512x11008, .bf16⟩
  | .hbm, ⟨48, _⟩ => ⟨S_, .i32⟩
  | .hbm, ⟨49, _⟩ => ⟨S512x11008, .i32⟩
  | .hbm, ⟨50, _⟩ => ⟨S512x11008, .i32⟩
  | .hbm, ⟨51, _⟩ => ⟨S8, .i32⟩
  | .hbm, ⟨52, _⟩ => ⟨S8x1x1, .i32⟩
  | .hbm, ⟨53, _⟩ => ⟨S1x512x11008, .i32⟩
  | .hbm, ⟨54, _⟩ => ⟨S_, .i32⟩
  | .hbm, ⟨55, _⟩ => ⟨S8x1x1, .i32⟩
  | .hbm, ⟨56, _⟩ => ⟨S8x1x1, .i32⟩
  | .hbm, ⟨57, _⟩ => ⟨S8x512x11008, .i32⟩
  | .hbm, ⟨58, _⟩ => ⟨S8x512x11008, .i32⟩
  | .hbm, ⟨59, _⟩ => ⟨S8x512x11008, .i1⟩
  | .hbm, ⟨60, _⟩ => ⟨S1x512x11008, .bf16⟩
  | .hbm, ⟨61, _⟩ => ⟨S_, .bf16⟩
  | .hbm, ⟨62, _⟩ => ⟨S8x512x11008, .bf16⟩
  | .hbm, ⟨63, _⟩ => ⟨S8x512x11008, .bf16⟩
  | .hbm, ⟨64, _⟩ => ⟨S8x512x11008, .bf16⟩
  | .hbm, ⟨65, _⟩ => ⟨S4096x11008, .bf16⟩
  | .hbm, ⟨66, _⟩ => ⟨S4096x11008, .f32⟩
  | .hbm, ⟨67, _⟩ => ⟨S128x11008, .f32⟩
  | .hbm, ⟨68, _⟩ => ⟨S128x11008, .f32⟩
  | .hbm, ⟨69, _⟩ => ⟨S128x11008, .f32⟩
  | .hbm, ⟨70, _⟩ => ⟨S128x11008, .f32⟩
  | .hbm, ⟨71, _⟩ => ⟨S128x11008, .f32⟩
  | .hbm, ⟨72, _⟩ => ⟨S128x11008, .bf16⟩
  | _, _ => ⟨S128x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_call0_v0 : Ref sig .tc := ⟨.hbm, 62, rfl⟩
abbrev main_call0_v1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Proof.Finite.lean ====
module

public import proofs.«01_k».proof.Proof.Gen.Pre_finite_operands
public import Idealize.ShloMosaic.Lib.Pipeline.Value
public import Idealize.ShloMosaic.Lib.Pointwise
public import Idealize.ShloMosaic.Lib.IdealHost

@[expose] public section

set_option maxRecDepth 16384

noncomputable section

namespace Cert.Finite

open Idealize.ShloMosaic hiding ix2 ix3
open Cert.Pre_finite_operands
open Idealize.ShloMosaic.ValueIdx

/-- A value whose absolute value is below infinity is neither infinity. -/
theorem real_of_abs_lt {x : EReal} (h : max x (-x) < ⊤) : x ≠ ⊤ ∧ x ≠ ⊥ := by
  constructor
  · rintro rfl; simp at h
  · rintro rfl; simp at h

/-- The test of the precondition at one place. -/
theorem real_of_test (v : FVec Ideal S3342336 .bf16) (k : S3342336.Idx) [self : Facts]
    (h : cmpf .olt (Host.absf v) (broadcastInDim S3342336 ![] Facts.bcast_S_S3342336 (constant S_ .bf16 0x7F80#16)) k = 1#1) :
    v k ≠ ⊤ ∧ v k ≠ ⊥ := by
  apply real_of_abs_lt
  have hb : (broadcastInDim S3342336 ![] Facts.bcast_S_S3342336 (constant (F := Ideal) S_ .bf16 0x7F80#16)) k = (⊤ : EReal) := by
    show FloatOps.ofBits (F := Ideal) .bf16 0x7F80#16 = ⊤
    rw [Ideal.ofBits_def]
    simp [Ideal.ofBits, Ideal.ieee]
  rw [cmpf_apply, hb] at h
  have h' : BitVec.ofBool (decide (max (v k : EReal) (-(v k : EReal)) < ⊤)) = 1#1 := h
  by_contra hn
  rw [decide_eq_false hn] at h'
  exact absurd h' (by decide)

/-- Under the precondition the activations and the scales are real numbers. -/
theorem real (X : FVec Ideal S128x1x4096 .bf16) (W : IVec S2048x11008 8) (S : FVec Ideal S256x11008 .bf16) (Z : IVec S256x11008 8)
    (T : IVec S44032x128 32) (Y : FVec Ideal S11008x128 .f32) [self : Facts]
    (h : fn (F := Ideal) X W S Z T Y = fun _ => 1#1) :
    (∀ i, (X i : EReal) ≠ ⊤ ∧ (X i : EReal) ≠ ⊥) ∧ (∀ i, (S i : EReal) ≠ ⊤ ∧ (S i : EReal) ≠ ⊥) := by
  have ht := fun k => real_of_test _ k (congrFun h k)
  constructor
  · intro (i : S128x1x4096.Idx)
    have hi0 : (i 0).val < 128 := (i 0).isLt
    have hi1 : (i 1).val < 1 := (i 1).isLt
    have hi2 : (i 2).val < 4096 := (i 2).isLt
    let a : S524288.Idx := fun b => match b with | ⟨0, _⟩ => (⟨(i 0).val * 4096 + (i 2).val, by omega⟩ : Fin 524288)
    let k : S3342336.Idx := fun b => match b with | ⟨0, _⟩ => (⟨(i 0).val * 4096 + (i 2).val, by omega⟩ : Fin 3342336)
    have e := ht k
    beta_reduce at e
    rw [concatenate_pair_apply_left (t := S3342336) (s₁ := S524288) (s₂ := S2818048) 0 _ _ _ k rfl a (fun b => by fin_cases b; rfl),
      shapeCast_apply _ _ a i (by
        rw [Shape.rowMajor_val_three, Shape.rowMajor_val_one]
        show ((i 0).val * 1 + (i 1).val) * 4096 + (i 2).val = (i 0).val * 4096 + (i 2).val
        omega)] at e
    exact e
  · intro (i : S256x11008.Idx)
    have hi0 : (i 0).val < 256 := (i 0).isLt
    have hi1 : (i 1).val < 11008 := (i 1).isLt
    let a : S2818048.Idx := fun b => match b with | ⟨0, _⟩ => (⟨(i 0).val * 11008 + (i 1).val, by omega⟩ : Fin 2818048)
    let k : S3342336.Idx := fun b => match b with | ⟨0, _⟩ => (⟨524288 + ((i 0).val * 11008 + (i 1).val), by omega⟩ : Fin 3342336)
    have e := ht k
    beta_reduce at e
    rw [concatenate_pair_apply_right (t := S3342336) (s₁ := S524288) (s₂ := S2818048) 0 _ _ _ k rfl rfl a (fun b hb => by fin_cases b; exact absurd rfl hb) (by show (i 0).val * 11008 + (i 1).val + 524288 = 524288 + ((i 0).val * 11008 + (i 1).val); omega),
      shapeCast_apply _ _ a i (by
        rw [Shape.rowMajor_val_two, Shape.rowMajor_val_one]
        rfl)] at e
    exact e

end Cert.Finite

end
-- ==== Proof.Block.lean ====
module

public import proofs.«01_k».proof.Proof.Gen.KernelIdeal.Value
public import Idealize.ShloMosaic.Lib.Pipeline.Value

@[expose] public section

set_option maxRecDepth 65536

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

/-- Sixteen rows from row `16 q` on lie inside 256 rows. -/
theorem slices16 (q : Fin 16) : S256x256.Slices ![16 * q.val, 0] S16x256 :=
  ⟨rfl, fun a => by
    have := q.isLt
    match a with
    | ⟨0, _⟩ => show 16 * q.val + 16 ≤ 256; omega
    | ⟨1, _⟩ => show 0 + 256 ≤ 256; omega⟩

/-- The 256 rows of four-bit codes held by 128 rows of bytes, as numbers. -/
def codes (w : Vec F S128x256 .i8) : FVec F S256x256 .bf16 :=
  sitofp .bf16 (bitcast S256x256 16
    (ori (andi (extui 32 w natLt_8_32) (broadcast S128x256 15#32))
      (shli (shrui (extui 32 w natLt_8_32) (broadcast S128x256 4#32)) (broadcast S128x256 16#32)))
    bitcasts_S128x256_w32_S256x256_w16)

/-- One row repeated over the sixteen rows of a group. -/
def spread (r : Vec F S1x256 .f32) : FVec F S16x256 .bf16 :=
  truncf .bf16 (broadcastTo S16x256 (shapeCast S1x256 r shapeCasts_S1x256_S1x256) broadcasts_S1x256_S16x256) bitsLt_bf16_f32

/-- The outliers of sixteen rows and 128 columns: the value in the high half of a table word where the low half is `tag`, zero
    elsewhere. The even rows are the words of `ev`, the odd rows the words of `od`. -/
def picked (ev od : Vec F S8x128 .i32) (tag : BitVec 16) : FVec F S16x128 .bf16 :=
  select
    (cmpi .eq
      (bitcast S16x128 16 (ori (andi ev (broadcast S8x128 65535#32)) (shli od (broadcast S8x128 16#32)))
        bitcasts_S8x128_w32_S16x128_w16)
      (broadcast S16x128 tag))
    (bitcastToFloat .bf16
      (bitcast S16x128 16 (ori (shrui ev (broadcast S8x128 16#32)) (andi od (broadcast S8x128 4294901760#32)))
        bitcasts_S8x128_w32_S16x128_w16))
    (broadcast S16x128 (Scalar.ofBits .bf16 0x0000#16))

/-- The outliers of sixteen rows and 256 columns, 128 columns beside 128 columns. -/
def outliers (ev od : Fin 2 → Vec F S8x128 .i32) (tag : BitVec 16) : FVec F S16x256 .bf16 :=
  concatenate S16x256 1 [⟨S16x128, picked (ev 0) (od 0) tag⟩, ⟨S16x128, picked (ev 1) (od 1) tag⟩]
    concatenates_S16x128_S16x128_S16x256_d1

/-- The sixteen weight rows of group `q` of a block: code minus zero point, times scale, plus outliers. -/
def group (c : FVec F S256x256 .bf16) (z s : Vec F S1x256 .f32) (p : FVec F S16x256 .bf16) (q : Fin 16) : FVec F S16x256 .bf16 :=
  addf (mulf (subf (extractStridedSlice S16x256 ![16 * q.val, 0] c (slices16 q)) (spread z)) (spread s)) p

/-- The 256 weight rows of a block, the sixteen groups one below the other. -/
def weights (p : Fin 16 → FVec F S16x256 .bf16) : FVec F S256x256 .bf16 :=
  concatenate S256x256 0 [⟨S16x256, p 0⟩, ⟨S16x256, p 1⟩, ⟨S16x256, p 2⟩, ⟨S16x256, p 3⟩, ⟨S16x256, p 4⟩, ⟨S16x256, p 5⟩,
    ⟨S16x256, p 6⟩, ⟨S16x256, p 7⟩, ⟨S16x256, p 8⟩, ⟨S16x256, p 9⟩, ⟨S16x256, p 10⟩, ⟨S16x256, p 11⟩, ⟨S16x256, p 12⟩,
    ⟨S16x256, p 13⟩, ⟨S16x256, p 14⟩, ⟨S16x256, p 15⟩]
    concatenates_S16x256_S16x256_S16x256_S16x256_S16x256_S16x256_S16x256_S16x256_S16x256_S16x256_S16x256_S16x256_S16x256_S16x256_S16x256_S16x256_S256x256_d0

/-- The number of group `q` of the `k`-th block of 256 rows. -/
def grp (k q : Fin 16) : Fin 256 := ⟨16 * k.val + q.val, by omega⟩

/-- One block of 256 columns of the input times its 256 weight rows, added to the running sum. -/
def step (acc : FVec F S128x256 .f32) (x : Vec F S128x256 .bf16) (w : Vec F S128x256 .i8)
    (z s : Fin 16 → Vec F S1x256 .f32) (p : Fin 16 → FVec F S16x256 .bf16) : FVec F S128x256 .f32 :=
  addf acc (matmul dot_S128x256_S256x256_S128x256_1_0_0_1_n_n none (shapeCast S128x256 x shapeCasts_S128x256_S128x256)
    (weights fun q => group (codes w) (z q) (s q) (p q) q) (constant S128x256 .f32 0x00000000#32))

/-- The tag of a table word for group `g`: the features of the group are among the 512 of place `g / 32`. -/
def tag (g : Fin 256) : BitVec 16 := BitVec.ofNat 16 (8 + g.val / 32)

/-- The sixteen blocks in order, over the loads they read, on top of the transpose of `y`'s two halves. -/
def total (x : Fin 16 → Vec F S128x256 .bf16) (w : Fin 16 → Vec F S128x256 .i8) (z s : Fin 256 → Vec F S1x256 .f32)
    (ev od : Fin 256 → Fin 2 → Vec F S8x128 .i32) (y : Fin 2 → Vec F S128x128 .f32) : FVec F S128x256 .f32 :=
  let st : Fin 16 → FVec F S128x256 .f32 → FVec F S128x256 .f32 :=
    fun k acc => step acc (x k) (w k) (fun q => z (grp k q)) (fun q => s (grp k q))
      (fun q => outliers (ev (grp k q)) (od (grp k q)) (tag (grp k q)))
  st 15 (st 14 (st 13 (st 12 (st 11 (st 10 (st 9 (st 8 (st 7 (st 6 (st 5 (st 4 (st 3 (st 2 (st 1 (st 0
    (concatenate S128x256 1 [⟨S128x128, transpose S128x128 [1, 0] (y 0) transposes_S128x128_p1_0_S128x128⟩,
      ⟨S128x128, transpose S128x128 [1, 0] (y 1) transposes_S128x128_p1_0_S128x128⟩] concatenates_S128x128_S128x128_S128x256_d1))))))))))))))))

/-- One row of 256 rows. -/
theorem inb1 (g : Fin 256) : ∀ a : Fin S256x256.rank, (![g.val, 0] : Fin 2 → ℕ) a + S1x256.size a ≤ S256x256.size a := fun a => by
  have := g.isLt
  match a with
  | ⟨0, _⟩ => show g.val + 1 ≤ 256; omega
  | ⟨1, _⟩ => show 0 + 256 ≤ 256; omega

/-- 128 of the 2048 rows of bytes. -/
theorem inbw (k : Fin 16) : ∀ a : Fin S2048x256.rank, (![128 * k.val, 0] : Fin 2 → ℕ) a + S128x256.size a ≤ S2048x256.size a := fun a => by
  have := k.isLt
  match a with
  | ⟨0, _⟩ => show 128 * k.val + 128 ≤ 2048; omega
  | ⟨1, _⟩ => show 0 + 256 ≤ 256; omega

/-- 256 of the 4096 columns of the input. -/
theorem inbx (k : Fin 16) : ∀ a : Fin S128x4096.rank, (![0, 256 * k.val] : Fin 2 → ℕ) a + S128x256.size a ≤ S128x4096.size a := fun a => by
  have := k.isLt
  match a with
  | ⟨0, _⟩ => show 0 + 128 ≤ 128; omega
  | ⟨1, _⟩ => show 256 * k.val + 256 ≤ 4096; omega

/-- Eight of the 1024 rows of the table: the even rows of group `g` in column half `h` (`e = 0`), or its odd rows (`e = 1`). -/
theorem inbt (e : Fin 2) (g : Fin 256) (h : Fin 2) :
    ∀ a : Fin S1024x128.rank, (![512 * h.val + 16 * (g.val % 32) + 8 * e.val, 0] : Fin 2 → ℕ) a + S8x128.size a ≤ S1024x128.size a := fun a => by
  have := h.isLt
  have := e.isLt
  match a with
  | ⟨0, _⟩ => show 512 * h.val + 16 * (g.val % 32) + 8 * e.val + 8 ≤ 1024; omega
  | ⟨1, _⟩ => show 0 + 128 ≤ 128; omega

/-- 128 of 256 rows. -/
theorem inby (h : Fin 2) : ∀ a : Fin S256x128.rank, (![128 * h.val, 0] : Fin 2 → ℕ) a + S128x128.size a ≤ S256x128.size a := fun a => by
  have := h.isLt
  match a with
  | ⟨0, _⟩ => show 128 * h.val + 128 ≤ 256; omega
  | ⟨1, _⟩ => show 0 + 128 ≤ 128; omega

/-- The origin of a whole block. -/
theorem hz : (![0, 0] : Fin 2 → Nat) = fun _ => 0 := funext fun a => by fin_cases a <;> rfl

/-- What the kernel's body leaves in the output block, over the rectangles it loads. -/
def blockVal (x0 : Vec F S128x4096 .bf16) (x1 : Vec F S2048x256 .i8) (x2 : Vec F S256x256 .bf16) (x3 : Vec F S256x256 .i8)
    (x4 : Vec F S1024x128 .i32) (x5 : Vec F S256x128 .f32) : FVec F S128x256 .bf16 :=
  truncf .bf16 (total (fun k => View.ld x0 (Rect.unit (s := S128x4096) ![0, 256 * k.val] S128x256.size (inbx k)))
    (fun k => View.ld x1 (Rect.unit (s := S2048x256) ![128 * k.val, 0] S128x256.size (inbw k)))
    (fun g => View.ld (k0_pay4 x3) (Rect.unit (s := S256x256) ![g.val, 0] S1x256.size (inb1 g)))
    (fun g => View.ld (k0_pay3 x2) (Rect.unit (s := S256x256) ![g.val, 0] S1x256.size (inb1 g)))
    (fun g h => View.ld x4 (Rect.unit (s := S1024x128) ![512 * h.val + 16 * (g.val % 32) + 8 * (0 : Fin 2).val, 0] S8x128.size (inbt 0 g h)))
    (fun g h => View.ld x4 (Rect.unit (s := S1024x128) ![512 * h.val + 16 * (g.val % 32) + 8 * (1 : Fin 2).val, 0] S8x128.size (inbt 1 g h)))
    (fun h => View.ld x5 (Rect.unit (s := S256x128) ![128 * h.val, 0] S128x128.size (inby h)))) bitsLt_bf16_f32

/-- A row read back from a scratch buffer that one store filled whole is that row of what was stored. -/
theorem readCov_row (m : Memref sig .tc .vmem S256x256 .f32) (w : S256x256.Idx → Elt F .f32)
    (h : ∀ a, (![0, 0] : Fin 2 → ℕ) a + S256x256.size a ≤ S256x256.size a) (r : Rect S256x256) :
    m.view.readCov [(⟨Rect.unit ![0, 0] S256x256.size h, w⟩ : View.Piece (Elt F) S256x256 .f32)] r.toLoadRect = View.ld w r := by
  rw [View.readCov_eq_canon', View.canon_unit_zero hz]

/-- One store of the whole block leaves what it stored. -/
theorem canon_of_eq (L : List (View.Piece (Elt F) S128x256 .bf16)) (w : FVec F S128x256 .bf16)
    (h : L = [(⟨Rect.unit ![0, 0] S128x256.size inb_S128x256_S128x256_0_0, w⟩ : View.Piece (Elt F) S128x256 .bf16)]) :
    View.canon L = w := by
  rw [h, View.canon_unit_zero hz]

set_option maxHeartbeats 4000000 in
/-- The found contents of the output block are the sixteen-block sum, rounded. -/
theorem out_eq (c : Dev nD) (i : grid0.Coords) (arg1 : Memref sig .tc .vmem S128x4096 .bf16) (harg1 : arg1.IsWhole)
    (arg2 : Memref sig .tc .vmem S2048x256 .i8) (harg2 : arg2.IsWhole) (arg3 : Memref sig .tc .vmem S256x256 .bf16) (harg3 : arg3.IsWhole)
    (arg4 : Memref sig .tc .vmem S256x256 .i8) (harg4 : arg4.IsWhole) (arg5 : Memref sig .tc .vmem S1024x128 .i32) (harg5 : arg5.IsWhole)
    (arg6 : Memref sig .tc .vmem S256x128 .f32) (harg6 : arg6.IsWhole) (arg7 : Memref sig .tc .vmem S128x256 .bf16) (harg7 : arg7.IsWhole)
    (arg8 : Memref sig .tc .vmem S256x256 .f32) (harg8 : arg8.IsWhole) (arg9 : Memref sig .tc .vmem S256x256 .f32) (harg9 : arg9.IsWhole)
    (x0 : Vec F S128x4096 .bf16) (x1 : Vec F S2048x256 .i8) (x2 : Vec F S256x256 .bf16) (x3 : Vec F S256x256 .i8)
    (x4 : Vec F S1024x128 .i32) (x5 : Vec F S256x128 .f32) :
    out0_A_6 c i arg1 harg1 arg2 harg2 arg3 harg3 arg4 harg4 arg5 harg5 arg6 harg6 arg7 harg7 arg8 harg8 arg9 harg9 x0 x1 x2 x3 x4 x5
      = blockVal x0 x1 x2 x3 x4 x5 := by
  unfold out0_A_6
  rw [View.read_writes_junk_eq_canon]
  have e2 : k0_pay4 x3 = k0_pay4 (View.readAt (Elt F) arg4.view (Rect.unit (s := S256x256) ![0, 0] S256x256.size inb_S256x256_S256x256_0_0).toLoadRect (harg4.unread x3)) := by
    rw [View.readAt_eq_ld, harg4.read_unread, View.ld_unit_zero hz]
  have e1 : k0_pay3 x2 = k0_pay3 (View.readAt (Elt F) arg3.view (Rect.unit (s := S256x256) ![0, 0] S256x256.size inb_S256x256_S256x256_0_0).toLoadRect (harg3.unread x2)) := by
    rw [View.readAt_eq_ld, harg3.read_unread, View.ld_unit_zero hz]
  have ez : (fun g : Fin 256 => View.ld (k0_pay4 x3) (Rect.unit (s := S256x256) ![g.val, 0] S1x256.size (inb1 g)))
      = fun g : Fin 256 => arg9.view.readCov [(⟨Rect.unit ![0, 0] S256x256.size inb_S256x256_S256x256_0_0, k0_pay4 (View.readAt (Elt F) arg4.view (Rect.unit (s := S256x256) ![0, 0] S256x256.size inb_S256x256_S256x256_0_0).toLoadRect (harg4.unread x3))⟩ : View.Piece (Elt F) S256x256 .f32)]
          (Rect.unit (s := S256x256) ![g.val, 0] S1x256.size (inb1 g)).toLoadRect := by
    funext g; rw [e2]; exact (readCov_row arg9 _ _ _).symm
  have es : (fun g : Fin 256 => View.ld (k0_pay3 x2) (Rect.unit (s := S256x256) ![g.val, 0] S1x256.size (inb1 g)))
      = fun g : Fin 256 => arg8.view.readCov [(⟨Rect.unit ![0, 0] S256x256.size inb_S256x256_S256x256_0_0, k0_pay3 (View.readAt (Elt F) arg3.view (Rect.unit (s := S256x256) ![0, 0] S256x256.size inb_S256x256_S256x256_0_0).toLoadRect (harg3.unread x2))⟩ : View.Piece (Elt F) S256x256 .f32)]
          (Rect.unit (s := S256x256) ![g.val, 0] S1x256.size (inb1 g)).toLoadRect := by
    funext g; rw [e1]; exact (readCov_row arg8 _ _ _).symm
  have ex : (fun k : Fin 16 => View.ld x0 (Rect.unit (s := S128x4096) ![0, 256 * k.val] S128x256.size (inbx k)))
      = fun k : Fin 16 => View.readAt (Elt F) arg1.view (Rect.unit (s := S128x4096) ![0, 256 * k.val] S128x256.size (inbx k)).toLoadRect (harg1.unread x0) := by
    funext k; rw [View.readAt_eq_ld, harg1.read_unread]
  have ew : (fun k : Fin 16 => View.ld x1 (Rect.unit (s := S2048x256) ![128 * k.val, 0] S128x256.size (inbw k)))
      = fun k : Fin 16 => View.readAt (Elt F) arg2.view (Rect.unit (s := S2048x256) ![128 * k.val, 0] S128x256.size (inbw k)).toLoadRect (harg2.unread x1) := by
    funext k; rw [View.readAt_eq_ld, harg2.read_unread]
  have et : ∀ e : Fin 2, (fun (g : Fin 256) (h : Fin 2) => View.ld x4 (Rect.unit (s := S1024x128) ![512 * h.val + 16 * (g.val % 32) + 8 * e.val, 0] S8x128.size (inbt e g h)))
      = fun (g : Fin 256) (h : Fin 2) => View.readAt (Elt F) arg5.view (Rect.unit (s := S1024x128) ![512 * h.val + 16 * (g.val % 32) + 8 * e.val, 0] S8x128.size (inbt e g h)).toLoadRect (harg5.unread x4) := by
    intro e; funext g h; rw [View.readAt_eq_ld, harg5.read_unread]
  have ey : (fun h : Fin 2 => View.ld x5 (Rect.unit (s := S256x128) ![128 * h.val, 0] S128x128.size (inby h)))
      = fun h : Fin 2 => View.readAt (Elt F) arg6.view (Rect.unit (s := S256x128) ![128 * h.val, 0] S128x128.size (inby h)).toLoadRect (harg6.unread x5) := by
    funext h; rw [View.readAt_eq_ld, harg6.read_unread]
  unfold blockVal
  rw [ez, es, ex, ew, et 0, et 1, ey]
  refine canon_of_eq _ _ ?_
  sl_kernel_rfl

end Cert.KernelIdeal.Block

end
-- ==== Proof.Spec.lean ====
module

public import Idealize.ShloMosaic.Lib.MatmulPlain
public import Idealize.ShloMosaic.Lib.Pointwise

@[expose] public section

noncomputable section

namespace Cert.Spec

open Idealize.ShloMosaic hiding ix2 ix3
open Idealize.ShloMosaic.ValueIdx
open scoped BigOperators

/-- The low four bits of a byte, as a number. -/
def lo (b : BitVec 8) : EReal := (((b.setWidth 32 &&& 15#32).toInt : ℝ) : EReal)

/-- The high four bits of a byte, as a number. -/
def hi (b : BitVec 8) : EReal := ((((b.setWidth 32).sshiftRight 4).toInt : ℝ) : EReal)

/-- The code of weight row `k` in the byte that holds it: even rows are the low bits, odd rows the high bits. -/
def code (b : BitVec 8) (k : ℕ) : EReal := if k % 2 = 0 then lo b else hi b

/-- A byte as a number. -/
def num (b : BitVec 8) : EReal := (((b.setWidth 32).toInt : ℝ) : EReal)

/-- The dequantised weight of row `k`, column `n`: code minus zero point, times scale, one zero point and one scale to
    sixteen rows. `N` is the number of columns. -/
def weight {N : ℕ} (W : (⟨2, ![2048, N]⟩ : Shape).Idx → BitVec 8) (S : (⟨2, ![256, N]⟩ : Shape).Idx → EReal)
    (Z : (⟨2, ![256, N]⟩ : Shape).Idx → BitVec 8) (n : Fin N) (k : Fin 4096) : EReal :=
  (code (W (ix2 ⟨k.val / 2, by omega⟩ n)) k.val - num (Z (ix2 ⟨k.val / 16, by omega⟩ n))) * S (ix2 ⟨k.val / 16, by omega⟩ n)

/-- The value that a table word holds for place `p`: the bf16 of its high half if its low half is `8 + p`, zero if not. -/
def held (w : BitVec 32) (p : ℕ) : EReal :=
  if w.setWidth 16 = BitVec.ofNat 16 (8 + p) then FloatOps.ofBits (F := Ideal) .bf16 ((w >>> 16).setWidth 16)
  else FloatOps.ofBits (F := Ideal) .bf16 0x0000#16

/-- The table row that holds feature `K` of column `n`: 512 rows to 128 columns, in groups of sixteen, the eight even features of a
    group before its eight odd ones. -/
def row (n K : ℕ) : ℕ := 512 * (n / 128) + 16 * (K % 512 / 16) + 8 * (K % 2) + K % 16 / 2

/-- The row is one of the table's rows. -/
theorem row_lt {R N : ℕ} (hR : 4 * N = R) (hN : N % 128 = 0) (n : Fin N) (K : ℕ) : row n.val K < R := by
  have := n.isLt
  unfold row
  omega

/-- The outlier of feature `K`, column `n` in a table of `N` columns. -/
def outlier {R N : ℕ} (hR : 4 * N = R) (hN : N % 128 = 0) (T : (⟨2, ![R, 128]⟩ : Shape).Idx → BitVec 32) (n : Fin N)
    (K : Fin 4096) : EReal :=
  held (T (ix2 ⟨row n.val K.val, row_lt hR hN n K.val⟩ ⟨n.val % 128, Nat.mod_lt _ (by decide)⟩)) (K.val / 512)

/-- The dense product at an index: the input row times the dequantised weight column. -/
def dense (X : (⟨3, ![128, 1, 4096]⟩ : Shape).Idx → EReal) (W : (⟨2, ![2048, 11008]⟩ : Shape).Idx → BitVec 8)
    (S : (⟨2, ![256, 11008]⟩ : Shape).Idx → EReal) (Z : (⟨2, ![256, 11008]⟩ : Shape).Idx → BitVec 8)
    (r : Fin 128) (n : Fin 11008) : EReal :=
  ∑ K : Fin 4096, X (ix3 r 0 K) * weight W S Z n K

/-- The product of the input row with the outlier column of the table. -/
def sparse (X : (⟨3, ![128, 1, 4096]⟩ : Shape).Idx → EReal) (T : (⟨2, ![44032, 128]⟩ : Shape).Idx → BitVec 32)
    (r : Fin 128) (n : Fin 11008) : EReal :=
  ∑ K : Fin 4096, X (ix3 r 0 K) * outlier (N := 11008) rfl rfl T n K

/-- The kernel's sum: the given sum, plus the input row times the column of the weights with their outliers. -/
def merged (X : (⟨3, ![128, 1, 4096]⟩ : Shape).Idx → EReal) (W : (⟨2, ![2048, 11008]⟩ : Shape).Idx → BitVec 8)
    (S : (⟨2, ![256, 11008]⟩ : Shape).Idx → EReal) (Z : (⟨2, ![256, 11008]⟩ : Shape).Idx → BitVec 8)
    (T : (⟨2, ![44032, 128]⟩ : Shape).Idx → BitVec 32) (Y : (⟨2, ![11008, 128]⟩ : Shape).Idx → EReal)
    (r : Fin 128) (n : Fin 11008) : EReal :=
  Y (ix2 n r) + ∑ K : Fin 4096, X (ix3 r 0 K) * (weight W S Z n K + outlier (N := 11008) rfl rfl T n K)

/-- A product with a sum is the sum of the products if the factor and the first term are real numbers: the second term may be
    infinite. -/
theorem real_mul_add (x w : ℝ) (s : EReal) : (x : EReal) * ((w : EReal) + s) = (x : EReal) * w + (x : EReal) * s := by
  induction s with
  | coe s => norm_cast; ring
  | top =>
    rw [EReal.coe_add_top]
    rcases lt_trichotomy x 0 with h | h | h
    · rw [EReal.coe_mul_top_of_neg h, EReal.add_bot]
    · subst h; simp
    · rw [EReal.coe_mul_top_of_pos h, ← EReal.coe_mul, EReal.coe_add_top]
  | bot =>
    rw [EReal.add_bot]
    rcases lt_trichotomy x 0 with h | h | h
    · rw [EReal.coe_mul_bot_of_neg h, ← EReal.coe_mul, EReal.coe_add_top]
    · subst h; simp
    · rw [EReal.coe_mul_bot_of_pos h, EReal.add_bot]

/-- A weight is a real number if its scale is. -/
theorem weight_real {N : ℕ} (W : (⟨2, ![2048, N]⟩ : Shape).Idx → BitVec 8) (S : (⟨2, ![256, N]⟩ : Shape).Idx → EReal)
    (Z : (⟨2, ![256, N]⟩ : Shape).Idx → BitVec 8) (hS : ∀ i, S i ≠ ⊤ ∧ S i ≠ ⊥) (n : Fin N) (k : Fin 4096) :
    ∃ w : ℝ, weight W S Z n k = (w : EReal) := by
  unfold weight
  generalize hs : S (ix2 ⟨k.val / 16, by omega⟩ n) = s
  have h := hS (ix2 ⟨k.val / 16, by omega⟩ n)
  rw [hs] at h
  lift s to ℝ using h
  unfold code lo hi num
  split
  · exact ⟨_, by rw [← EReal.coe_sub, ← EReal.coe_mul]⟩
  · exact ⟨_, by rw [← EReal.coe_sub, ← EReal.coe_mul]⟩

/-- With finite inputs and scales the kernel's sum is the dense product plus the outliers' product plus the given sum. -/
theorem merged_eq (X : (⟨3, ![128, 1, 4096]⟩ : Shape).Idx → EReal) (W : (⟨2, ![2048, 11008]⟩ : Shape).Idx → BitVec 8)
    (S : (⟨2, ![256, 11008]⟩ : Shape).Idx → EReal) (Z : (⟨2, ![256, 11008]⟩ : Shape).Idx → BitVec 8)
    (T : (⟨2, ![44032, 128]⟩ : Shape).Idx → BitVec 32) (Y : (⟨2, ![11008, 128]⟩ : Shape).Idx → EReal)
    (hX : ∀ i, X i ≠ ⊤ ∧ X i ≠ ⊥) (hS : ∀ i, S i ≠ ⊤ ∧ S i ≠ ⊥) (r : Fin 128) (n : Fin 11008) :
    merged X W S Z T Y r n = dense X W S Z r n + sparse X T r n + Y (ix2 n r) := by
  unfold merged dense sparse
  rw [add_comm, ← Finset.sum_add_distrib]
  refine congrArg (· + Y (ix2 n r)) (Finset.sum_congr rfl fun K _ => ?_)
  obtain ⟨w, hw⟩ := weight_real W S Z hS n K
  have h := hX (ix3 r 0 K)
  generalize X (ix3 r 0 K) = x at h ⊢
  lift x to ℝ using h
  rw [hw]
  exact real_mul_add x w _

/-- A sum over blocks of `b` consecutive places is the sum over all places. -/
theorem sum_blocks {M : Type*} [AddCommMonoid M] {a b N : ℕ} (h : a * b = N) (g : Fin N → M)
    (hlt : ∀ (k : Fin a) (i : Fin b), b * k.val + i.val < N) :
    ∑ k : Fin a, ∑ i : Fin b, g ⟨b * k.val + i.val, hlt k i⟩ = ∑ K : Fin N, g K := by
  subst h
  rw [← Equiv.sum_comp finProdFinEquiv g, Fintype.sum_prod_type]
  refine Finset.sum_congr rfl fun k _ => Finset.sum_congr rfl fun i _ => congrArg g (Fin.ext ?_)
  show b * k.val + i.val = i.val + b * k.val
  omega

/-- A sum over 4096 places is the sum over the even places plus the sum over the odd places. -/
theorem sum_parity {M : Type*} [AddCommMonoid M] (g : Fin 4096 → M) :
    ∑ K : Fin 4096, g K = ∑ k : Fin 2048, g ⟨2 * k.val, by omega⟩ + ∑ k : Fin 2048, g ⟨2 * k.val + 1, by omega⟩ := by
  rw [← sum_blocks (a := 2048) (b := 2) rfl g (fun k i => by omega), ← Finset.sum_add_distrib]
  refine Finset.sum_congr rfl fun k _ => ?_
  rw [Fin.sum_univ_two]
  rfl

/-- The word that holds both codes of a byte: its low half gives the low code. -/
theorem word_lo : ∀ b : BitVec 8,
    (((b.setWidth 32 &&& 15#32) ||| (((b.setWidth 32) >>> 4) <<< 16)).extractLsb' 0 16).toInt = (b.setWidth 32 &&& 15#32).toInt := by
  decide +kernel
/-- The high half gives the high code. -/
theorem word_hi : ∀ b : BitVec 8,
    (((b.setWidth 32 &&& 15#32) ||| (((b.setWidth 32) >>> 4) <<< 16)).extractLsb' 16 16).toInt = ((b.setWidth 32).sshiftRight 4).toInt := by
  decide +kernel

/-- Two table words' high halves put into one word: its low half is the first word's value. -/
theorem value_ev (ev od : BitVec 32) : ((ev >>> 16) ||| (od &&& 4294901760#32)).extractLsb' 0 16 = (ev >>> 16).setWidth 16 := by
  ext i h
  have : ∀ i : ℕ, i < 16 → (4294901760#32).getLsbD i = false := by decide
  simp [h, this i h, BitVec.getLsbD_extractLsb']
/-- The high half of the words' high halves is the second word's value. -/
theorem value_od (ev od : BitVec 32) : ((ev >>> 16) ||| (od &&& 4294901760#32)).extractLsb' 16 16 = (od >>> 16).setWidth 16 := by
  ext i h
  have : ∀ i : ℕ, i < 16 → (4294901760#32).getLsbD (16 + i) = true := by decide
  simp [h, this i h, BitVec.getLsbD_extractLsb']
  intro h'
  exact absurd (BitVec.lt_of_getLsbD h') (by omega)
/-- The low half of the words' low halves is the first word's tag. -/
theorem tag_ev (ev od : BitVec 32) : ((ev &&& 65535#32) ||| (od <<< 16)).extractLsb' 0 16 = ev.setWidth 16 := by
  ext i h
  have : ∀ i : ℕ, i < 16 → (65535#32).getLsbD i = true := by decide
  simp [h, this i h, BitVec.getLsbD_extractLsb']
/-- The high half of the words' low halves is the second word's tag. -/
theorem tag_od (ev od : BitVec 32) : ((ev &&& 65535#32) ||| (od <<< 16)).extractLsb' 16 16 = od.setWidth 16 := by
  ext i h
  have : ∀ i : ℕ, i < 16 → (65535#32).getLsbD (16 + i) = false := by decide
  simp [h, this i h, BitVec.getLsbD_extractLsb']
  omega

/-- The low half of a word is a tag exactly if the masked word is the tag. -/
theorem tag_iff (w : BitVec 32) (p : ℕ) (hp : p < 8) :
    w &&& 65535#32 = BitVec.ofNat 32 p + 8#32 ↔ w.setWidth 16 = BitVec.ofNat 16 (8 + p) := by
  rw [← BitVec.toNat_inj, ← BitVec.toNat_inj]
  have e : w.toNat &&& 65535 = w.toNat % 65536 := Nat.and_two_pow_sub_one_eq_mod w.toNat 16
  simp only [BitVec.toNat_and, BitVec.toNat_ofNat, BitVec.toNat_setWidth, BitVec.toNat_add]
  norm_num [e]
  omega

end Cert.Spec

end
-- ==== Proof.BlockSum.lean ====
module

public import proofs.«01_k».proof.Proof.Block
public import proofs.«01_k».proof.Proof.Spec
public import Idealize.ShloMosaic.Lib.BitcastPair

@[expose] public section

set_option maxRecDepth 16384

noncomputable section

namespace Cert.KernelIdeal.Block

open Idealize.ShloMosaic hiding ix2 ix3
open Cert.KernelIdeal Cert.KernelIdeal.Gen Idealize.ShloMosaic.TcCoe Idealize.SL.Sem
open Idealize.ShloMosaic.ValueIdx Cert.Spec
open scoped BigOperators

/-- Row `i` of the codes: the half of the byte of row `i / 2` that `i`'s parity picks. -/
theorem codes_apply (w : Vec Ideal S128x256 .i8) (i : Fin 256) (l : Fin 256) :
    codes w (ix2 i l) = code (w (ix2 ⟨i.val / 2, by omega⟩ l)) i.val := by
  unfold codes
  rw [sitofp_apply, bitcast_32_16]
  have hrow : S256x256.row (ix2 i l) = i.val := rfl
  have hsrc : ∀ h, bitcasts_S128x256_w32_S256x256_w16.srcIdx (ix2 i l) (S256x256.row (ix2 i l) / 2) h
      = (ix2 ⟨i.val / 2, by omega⟩ l : S128x256.Idx) := by
    intro h
    funext a; apply Fin.ext
    match a with
    | ⟨0, _⟩ => exact Shape.Bitcasts.srcIdx_row bitcasts_S128x256_w32_S256x256_w16 _ _ h ⟨0, by decide⟩ rfl
    | ⟨1, _⟩ => exact Shape.Bitcasts.srcIdx_other bitcasts_S128x256_w32_S256x256_w16 _ _ h ⟨1, by decide⟩ (by decide)
  rw [hsrc, hrow]
  generalize hb : w (ix2 ⟨i.val / 2, by omega⟩ l) = b
  show (((((((w (ix2 ⟨i.val / 2, by omega⟩ l)).setWidth 32 &&& 15#32) |||
    (((w (ix2 ⟨i.val / 2, by omega⟩ l)).setWidth 32) >>> 4) <<< 16).extractLsb' (16 * (i.val % 2)) 16).toInt : ℝ) : EReal)) = _
  rw [hb]
  unfold code
  rcases Nat.mod_two_eq_zero_or_one i.val with h | h
  · rw [h, if_pos rfl]; exact congrArg (fun z : ℤ => ((z : ℝ) : EReal)) (word_lo b)
  · rw [h, if_neg (by decide)]; exact congrArg (fun z : ℤ => ((z : ℝ) : EReal)) (word_hi b)

/-- A row repeated reads the row. -/
theorem spread_apply (r : Vec Ideal S1x256 .f32) (a : Fin 16) (l : Fin 256) : spread r (ix2 a l) = r (ix2 0 l) := by
  unfold spread
  rw [truncf_apply, shapeCast_self]
  exact congrArg r (funext fun x => by fin_cases x <;> rfl)

/-- One outlier of sixteen rows: the row's parity picks the word. -/
theorem picked_apply (ev od : Vec Ideal S8x128 .i32) (p : ℕ) (i : Fin 16) (l : Fin 128) :
    picked ev od (BitVec.ofNat 16 (8 + p)) (ix2 i l)
      = held (if i.val % 2 = 0 then ev (ix2 ⟨i.val / 2, by omega⟩ l) else od (ix2 ⟨i.val / 2, by omega⟩ l)) p := by
  unfold picked
  rw [select_apply, cmpi_apply, bitcastToFloat_apply, bitcast_32_16, bitcast_32_16]
  have hrow : S16x128.row (ix2 i l) = i.val := rfl
  have hsrc : ∀ h, bitcasts_S8x128_w32_S16x128_w16.srcIdx (ix2 i l) (S16x128.row (ix2 i l) / 2) h
      = (ix2 ⟨i.val / 2, by omega⟩ l : S8x128.Idx) := by
    intro h
    funext a; apply Fin.ext
    match a with
    | ⟨0, _⟩ => exact Shape.Bitcasts.srcIdx_row bitcasts_S8x128_w32_S16x128_w16 _ _ h ⟨0, by decide⟩ rfl
    | ⟨1, _⟩ => exact Shape.Bitcasts.srcIdx_other bitcasts_S8x128_w32_S16x128_w16 _ _ h ⟨1, by decide⟩ (by decide)
  rw [hsrc, hrow]
  show Scalar.select (BitVec.ofBool (((ev (ix2 ⟨i.val / 2, by omega⟩ l) &&& 65535#32) ||| (od (ix2 ⟨i.val / 2, by omega⟩ l) <<< 16)).extractLsb' (16 * (i.val % 2)) 16
      == BitVec.ofNat 16 (8 + p)))
    (FloatOps.ofBits (F := Ideal) .bf16 (((ev (ix2 ⟨i.val / 2, by omega⟩ l) >>> 16) ||| (od (ix2 ⟨i.val / 2, by omega⟩ l) &&& 4294901760#32)).extractLsb' (16 * (i.val % 2)) 16))
    (FloatOps.ofBits (F := Ideal) .bf16 0x0000#16) = _
  generalize ev (ix2 ⟨i.val / 2, by omega⟩ l) = a
  generalize od (ix2 ⟨i.val / 2, by omega⟩ l) = b
  have sel : ∀ w : BitVec 32, Scalar.select (BitVec.ofBool (w.setWidth 16 == BitVec.ofNat 16 (8 + p)))
      (FloatOps.ofBits (F := Ideal) .bf16 ((w >>> 16).setWidth 16)) (FloatOps.ofBits (F := Ideal) .bf16 0x0000#16) = held w p := by
    intro w
    unfold held
    by_cases h : w.setWidth 16 = BitVec.ofNat 16 (8 + p)
    · rw [if_pos h, beq_iff_eq.mpr h]; rfl
    · rw [if_neg h, beq_eq_false_iff_ne.mpr h]; rfl
  rcases Nat.mod_two_eq_zero_or_one i.val with h | h
  · rw [h, if_pos rfl, ← sel]; simp only [Nat.mul_zero, tag_ev, value_ev]
  · rw [h, if_neg (by decide), ← sel]; simp only [Nat.mul_one, tag_od, value_od]

/-- One outlier of sixteen rows and 256 columns. -/
theorem outliers_apply (ev od : Fin 2 → Vec Ideal S8x128 .i32) (p : ℕ) (i : Fin 16) (l : Fin 256) :
    outliers ev od (BitVec.ofNat 16 (8 + p)) (ix2 i l)
      = held (if i.val % 2 = 0 then ev ⟨l.val / 128, by omega⟩ (ix2 ⟨i.val / 2, by omega⟩ ⟨l.val % 128, by omega⟩)
          else od ⟨l.val / 128, by omega⟩ (ix2 ⟨i.val / 2, by omega⟩ ⟨l.val % 128, by omega⟩)) p := by
  rw [← picked_apply]
  exact concatenate_ofFn_apply (t := S16x256) (s₁ := S16x128) (N := 2) 1 (fun h => picked (ev h) (od h) (BitVec.ofNat 16 (8 + p))) _ rfl 128 rfl
    (ix2 i l) ⟨l.val / 128, by omega⟩ rfl (ix2 i ⟨l.val % 128, by omega⟩) rfl (fun b hb => by
      match b, hb with
      | ⟨0, _⟩, _ => rfl
      | ⟨1, _⟩, hb => exact absurd rfl hb)

/-- One weight of a group. -/
theorem group_apply (c : FVec Ideal S256x256 .bf16) (z s : Vec Ideal S1x256 .f32) (p : FVec Ideal S16x256 .bf16) (q a : Fin 16) (l : Fin 256) :
    group c z s p q (ix2 a l) = (c (ix2 ⟨16 * q.val + a.val, by omega⟩ l) - z (ix2 0 l)) * s (ix2 0 l) + p (ix2 a l) := by
  unfold group
  rw [addf_apply, mulf_apply, subf_apply, spread_apply, spread_apply]
  have e : extractStridedSlice S16x256 ![16 * q.val, 0] c (slices16 q) (ix2 a l) = c (ix2 ⟨16 * q.val + a.val, by omega⟩ l) :=
    congrArg c (funext fun x => Fin.ext (by
      match x with
      | ⟨0, _⟩ => rfl
      | ⟨1, _⟩ => show 0 + l.val = l.val; omega))
  rw [e]

/-- Row `i` of a block's weights is row `i mod 16` of group `i / 16`. -/
theorem weights_apply (p : Fin 16 → FVec Ideal S16x256 .bf16) (i l : Fin 256) :
    weights p (ix2 i l) = p ⟨i.val / 16, by omega⟩ (ix2 ⟨i.val % 16, by omega⟩ l) :=
  concatenate_ofFn_apply (t := S256x256) (s₁ := S16x256) 0 p _ rfl 16 rfl (ix2 i l) ⟨i.val / 16, by omega⟩ rfl
    (ix2 ⟨i.val % 16, by omega⟩ l) rfl (fun b hb => by
      match b, hb with
      | ⟨0, _⟩, hb => exact absurd rfl hb
      | ⟨1, _⟩, _ => rfl)

/-- One block's product at an index. -/
theorem step_apply (acc : FVec Ideal S128x256 .f32) (x : Vec Ideal S128x256 .bf16) (w : Vec Ideal S128x256 .i8)
    (z s : Fin 16 → Vec Ideal S1x256 .f32) (p : Fin 16 → FVec Ideal S16x256 .bf16) (r : Fin 128) (l : Fin 256) :
    step acc x w z s p (ix2 r l) = acc (ix2 r l) + ∑ i : Fin 256, x (ix2 r i)
      * ((code (w (ix2 ⟨i.val / 2, by omega⟩ l)) i.val - z ⟨i.val / 16, by omega⟩ (ix2 0 l)) * s ⟨i.val / 16, by omega⟩ (ix2 0 l)
        + p ⟨i.val / 16, by omega⟩ (ix2 ⟨i.val % 16, by omega⟩ l)) := by
  unfold step
  rw [addf_apply, shapeCast_self]
  refine congrArg (acc (ix2 r l) + ·) ?_
  refine (Ideal.matmul_plain_apply (M := 128) (K := 256) (N := 256) none x _ _ r l).trans ?_
  rw [constant_apply, Ideal.ofBits_zero, zero_add]
  refine Finset.sum_congr rfl fun i _ => ?_
  rw [weights_apply, group_apply, codes_apply]
  have e : 16 * (i.val / 16) + i.val % 16 = i.val := Nat.div_add_mod _ _
  simp only [e]

/-- Sixteen terms added in order to a first one are it and their sum. -/
theorem sum16 (a : EReal) (f : Fin 16 → EReal) : a + f 0 + f 1 + f 2 + f 3 + f 4 + f 5 + f 6 + f 7 + f 8 + f 9 + f 10 + f 11 + f 12
    + f 13 + f 14 + f 15 = a + ∑ k, f k := by
  simp only [Fin.sum_univ_castSucc, Fin.sum_univ_zero, zero_add, ← add_assoc]
  rfl

/-- The start of the running sum: the given sum, transposed. -/
theorem start_apply (y : Fin 2 → Vec Ideal S128x128 .f32) (r : Fin 128) (l : Fin 256) :
    (concatenate S128x256 1 [⟨S128x128, transpose S128x128 [1, 0] (y 0) transposes_S128x128_p1_0_S128x128⟩,
      ⟨S128x128, transpose S128x128 [1, 0] (y 1) transposes_S128x128_p1_0_S128x128⟩] concatenates_S128x128_S128x128_S128x256_d1
        : FVec Ideal S128x256 .f32) (ix2 r l)
      = y ⟨l.val / 128, by omega⟩ (ix2 ⟨l.val % 128, by omega⟩ r) := by
  refine (concatenate_ofFn_apply (t := S128x256) (s₁ := S128x128) (N := 2) 1
    (fun h => transpose S128x128 [1, 0] (y h) transposes_S128x128_p1_0_S128x128) _ rfl 128 rfl
    (ix2 r l) ⟨l.val / 128, by omega⟩ rfl (ix2 r ⟨l.val % 128, by omega⟩) rfl (fun b hb => by
      match b, hb with
      | ⟨0, _⟩, _ => rfl
      | ⟨1, _⟩, hb => exact absurd rfl hb)).trans ?_
  exact transpose_apply _ _ _ _ _ (fun b => by fin_cases b <;> rfl)

/-- The sixteen blocks at an index: the start and one sum over the blocks. -/
theorem total_apply (x : Fin 16 → Vec Ideal S128x256 .bf16) (w : Fin 16 → Vec Ideal S128x256 .i8)
    (z s : Fin 256 → Vec Ideal S1x256 .f32) (ev od : Fin 256 → Fin 2 → Vec Ideal S8x128 .i32) (y : Fin 2 → Vec Ideal S128x128 .f32)
    (r : Fin 128) (l : Fin 256) :
    total x w z s ev od y (ix2 r l) = y ⟨l.val / 128, by omega⟩ (ix2 ⟨l.val % 128, by omega⟩ r) + ∑ k : Fin 16, ∑ i : Fin 256, x k (ix2 r i)
      * ((code (w k (ix2 ⟨i.val / 2, by omega⟩ l)) i.val - z (grp k ⟨i.val / 16, by omega⟩) (ix2 0 l))
          * s (grp k ⟨i.val / 16, by omega⟩) (ix2 0 l)
        + outliers (ev (grp k ⟨i.val / 16, by omega⟩)) (od (grp k ⟨i.val / 16, by omega⟩)) (tag (grp k ⟨i.val / 16, by omega⟩))
            (ix2 ⟨i.val % 16, by omega⟩ l)) := by
  unfold total
  dsimp only
  simp only [step_apply]
  rw [start_apply]
  exact sum16 _ fun k => ∑ i : Fin 256, x k (ix2 r i)
      * ((code (w k (ix2 ⟨i.val / 2, by omega⟩ l)) i.val - z (grp k ⟨i.val / 16, by omega⟩) (ix2 0 l))
          * s (grp k ⟨i.val / 16, by omega⟩) (ix2 0 l)
        + outliers (ev (grp k ⟨i.val / 16, by omega⟩)) (od (grp k ⟨i.val / 16, by omega⟩)) (tag (grp k ⟨i.val / 16, by omega⟩))
            (ix2 ⟨i.val % 16, by omega⟩ l))

/-- A stored scale is the scale. -/
theorem scale_apply (x2 : Vec Ideal S256x256 .bf16) (i : S256x256.Idx) : k0_pay3 x2 i = x2 i := by
  unfold k0_pay3
  rw [shapeCast_self]
  rfl

/-- A stored zero point is the byte as a number. -/
theorem zero_apply (x3 : Vec Ideal S256x256 .i8) (i : S256x256.Idx) : k0_pay4 (F := Ideal) x3 i = num (x3 i) := by
  unfold k0_pay4
  rw [shapeCast_self]
  rfl

/-- A load at an offset reads the contents at the offset place. -/
theorem ld_apply {A B a b : ℕ} {α : EltTy → Type} {e : EltTy} (X : (⟨2, ![A, B]⟩ : Shape).Idx → α e) (o p : ℕ)
    (h : ∀ d, (![o, p] : Fin 2 → ℕ) d + (![a, b] : Fin 2 → ℕ) d ≤ (![A, B] : Fin 2 → ℕ) d) (i : Fin a) (j : Fin b)
    (hi : o + i.val < A) (hj : p + j.val < B) :
    View.ld X (Rect.unit (s := ⟨2, ![A, B]⟩) ![o, p] ![a, b] h) (ix2 i j) = X (ix2 ⟨o + i.val, hi⟩ ⟨p + j.val, hj⟩) :=
  congrArg X (funext fun d => Fin.ext (by
    match d with
    | ⟨0, _⟩ => show o + 1 * i.val = o + i.val; omega
    | ⟨1, _⟩ => show p + 1 * j.val = p + j.val; omega))

/-- The outlier of a group's row read from the table's block. -/
theorem outliers_ld (x4 : Vec Ideal S1024x128 .i32) (k q i : Fin 16) (l : Fin 256) (K : Fin 4096) (hK : K.val = 256 * k.val + 16 * q.val + i.val) :
    outliers (fun h => View.ld x4 (Rect.unit (s := S1024x128) ![512 * h.val + 16 * ((grp k q).val % 32) + 8 * (0 : Fin 2).val, 0] S8x128.size (inbt 0 (grp k q) h)))
      (fun h => View.ld x4 (Rect.unit (s := S1024x128) ![512 * h.val + 16 * ((grp k q).val % 32) + 8 * (1 : Fin 2).val, 0] S8x128.size (inbt 1 (grp k q) h)))
      (tag (grp k q)) (ix2 i l) = outlier (N := 256) rfl rfl x4 l K := by
  have hk := k.isLt
  have hq := q.isLt
  have hi := i.isLt
  have hl := l.isLt
  have hg : (grp k q).val = 16 * k.val + q.val := rfl
  have hp : (grp k q).val / 32 = K.val / 512 := by omega
  refine (outliers_apply _ _ _ _ _).trans ?_
  unfold outlier
  rw [hp]
  refine congrArg (fun w => held w (K.val / 512)) ?_
  have e0 : ((0 : Fin 2) : Fin 2).val = 0 := rfl
  have e1 : ((1 : Fin 2) : Fin 2).val = 1 := rfl
  rcases Nat.mod_two_eq_zero_or_one i.val with h | h
  · rw [if_pos h]
    refine (ld_apply (α := Elt Ideal) (e := .i32) x4 (512 * (l.val / 128) + 16 * ((grp k q).val % 32) + 8 * (0 : Fin 2).val) 0 _ ⟨i.val / 2, by omega⟩ ⟨l.val % 128, by omega⟩
      (by rw [e0]; dsimp only; omega) (by dsimp only; omega)).trans ?_
    refine congrArg x4 (funext fun d => Fin.ext ?_)
    match d with
    | ⟨0, _⟩ =>
      show 512 * (l.val / 128) + 16 * ((grp k q).val % 32) + 8 * 0 + i.val / 2 = row l.val K.val
      unfold row; omega
    | ⟨1, _⟩ => show 0 + l.val % 128 = l.val % 128; omega
  · rw [if_neg (by omega)]
    refine (ld_apply (α := Elt Ideal) (e := .i32) x4 (512 * (l.val / 128) + 16 * ((grp k q).val % 32) + 8 * (1 : Fin 2).val) 0 _ ⟨i.val / 2, by omega⟩ ⟨l.val % 128, by omega⟩
      (by rw [e1]; dsimp only; omega) (by dsimp only; omega)).trans ?_
    refine congrArg x4 (funext fun d => Fin.ext ?_)
    match d with
    | ⟨0, _⟩ =>
      show 512 * (l.val / 128) + 16 * ((grp k q).val % 32) + 8 * 1 + i.val / 2 = row l.val K.val
      unfold row; omega
    | ⟨1, _⟩ => show 0 + l.val % 128 = l.val % 128; omega

/-- What the body leaves at an index of the output block: the given sum, plus the input row times the column of the weights with
    their outliers. -/
theorem blockVal_apply (x0 : Vec Ideal S128x4096 .bf16) (x1 : Vec Ideal S2048x256 .i8) (x2 : Vec Ideal S256x256 .bf16)
    (x3 : Vec Ideal S256x256 .i8) (x4 : Vec Ideal S1024x128 .i32) (x5 : Vec Ideal S256x128 .f32) (r : Fin 128) (l : Fin 256) :
    blockVal x0 x1 x2 x3 x4 x5 (ix2 r l)
      = x5 (ix2 l r) + ∑ K : Fin 4096, x0 (ix2 r K) * (weight x1 x2 x3 l K + outlier (N := 256) rfl rfl x4 l K) := by
  unfold blockVal
  rw [truncf_apply, total_apply, ← sum_blocks (a := 16) (b := 256) rfl _ (fun k i => by omega)]
  congr 1
  · refine (ld_apply (α := Elt Ideal) (e := .f32) x5 (128 * (l.val / 128)) 0 _ ⟨l.val % 128, by omega⟩ r (by have := l.isLt; dsimp only; omega) (by omega)).trans ?_
    have e : 128 * (l.val / 128) + l.val % 128 = l.val := Nat.div_add_mod _ _
    simp only [Nat.zero_add, e]
  refine Finset.sum_congr rfl fun k _ => Finset.sum_congr rfl fun i _ => ?_
  have hk := k.isLt
  have hi := i.isLt
  have hl := l.isLt
  rw [outliers_ld x4 k ⟨i.val / 16, by omega⟩ ⟨i.val % 16, by omega⟩ l ⟨256 * k.val + i.val, by omega⟩ (by dsimp only; omega)]
  rw [show View.ld x0 (Rect.unit (s := S128x4096) ![0, 256 * k.val] S128x256.size (inbx k)) (ix2 r i)
      = x0 (ix2 r ⟨256 * k.val + i.val, by omega⟩) from
      (ld_apply (α := Elt Ideal) x0 0 (256 * k.val) _ r i (by omega) (by omega)).trans (by simp only [Nat.zero_add]),
    show View.ld x1 (Rect.unit (s := S2048x256) ![128 * k.val, 0] S128x256.size (inbw k)) (ix2 ⟨i.val / 2, by omega⟩ l)
      = x1 (ix2 ⟨(256 * k.val + i.val) / 2, by omega⟩ l) from
      (ld_apply (α := Elt Ideal) x1 (128 * k.val) 0 _ ⟨i.val / 2, by omega⟩ l (by dsimp only; omega) (by omega)).trans (by
        have e : 128 * k.val + i.val / 2 = (256 * k.val + i.val) / 2 := by omega
        simp only [Nat.zero_add, e]),
    show View.ld (Val := Elt Ideal) (S := S256x256) (e' := .f32) (k0_pay4 (F := Ideal) x3) (Rect.unit (s := S256x256) ![(grp k ⟨i.val / 16, by omega⟩).val, 0] S1x256.size (inb1 _)) (ix2 0 l)
      = num (x3 (ix2 ⟨(256 * k.val + i.val) / 16, by omega⟩ l)) from
      (ld_apply (α := Elt Ideal) (e := .f32) (k0_pay4 (F := Ideal) x3) (16 * k.val + i.val / 16) 0 _ (0 : Fin 1) l (by simp only [Fin.val_zero]; omega) (by omega)).trans (by
        have e : 16 * k.val + i.val / 16 = (256 * k.val + i.val) / 16 := by omega
        simp only [Nat.zero_add, Fin.val_zero, Nat.add_zero, e]
        exact zero_apply x3 _),
    show View.ld (Val := Elt Ideal) (S := S256x256) (e' := .f32) (k0_pay3 (F := Ideal) x2) (Rect.unit (s := S256x256) ![(grp k ⟨i.val / 16, by omega⟩).val, 0] S1x256.size (inb1 _)) (ix2 0 l)
      = x2 (ix2 ⟨(256 * k.val + i.val) / 16, by omega⟩ l) from
      (ld_apply (α := Elt Ideal) (e := .f32) (k0_pay3 (F := Ideal) x2) (16 * k.val + i.val / 16) 0 _ (0 : Fin 1) l (by simp only [Fin.val_zero]; omega) (by omega)).trans (by
        have e : 16 * k.val + i.val / 16 = (256 * k.val + i.val) / 16 := by omega
        simp only [Nat.zero_add, Fin.val_zero, Nat.add_zero, e]
        exact scale_apply x2 _)]
  unfold weight code
  have e : (256 * k.val + i.val) % 2 = i.val % 2 := by omega
  simp only [e]

end Cert.KernelIdeal.Block

end
-- ==== Proof.Array.lean ====
module

public import proofs.«01_k».proof.Proof.BlockSum

@[expose] public section

set_option maxRecDepth 16384

noncomputable section

namespace Cert.KernelIdeal.Array

open Idealize.ShloMosaic hiding ix2 ix3
open Cert.KernelIdeal Cert.KernelIdeal.Gen Idealize.ShloMosaic.TcCoe Idealize.SL.Sem
open Idealize.ShloMosaic.Pipeline (Dat)
open Idealize.ShloMosaic.ValueIdx Cert.Spec
open scoped BigOperators

variable (m : (ℓ : Loc nD τ sig) → Buf (Elt Ideal) ℓ) (ρ : Dev nD → PrngReg)

/-- The result the kernel computes, index by index: the given sum, plus the input row times the column of the weights with their
    outliers. -/
def result (c : Dev nD) : Buf (Elt Ideal) ((c : Thread nD τ).loc main_v1) := fun (j : S128x11008.Idx) =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

/-- The reshaped input the kernel's call reads. -/
theorem V_main_v0 (c : Dev nD) : V m c main_v0
    = shapeCast S128x4096 (m ((c : Thread nD τ).loc main_arg0) : S128x1x4096.Idx → EReal) shapeCasts_S128x1x4096_S128x4096 := by
  dsimp only [V, hostOps0]
  after_results_simp
  rfl

/-- At every point the input stands whole. -/
theorem index0 : ∀ t : Fin cfg0.N, win0_0.index t 0 = 0 ∧ win0_0.index t 1 = 0 := (by decide +kernel : ∀ t : Fin grid0.N, _)
/-- The packed weights stand at block column `t`. -/
theorem index1 : ∀ t : Fin cfg0.N, win0_1.index t 0 = 0 ∧ win0_1.index t 1 = t.val := (by decide +kernel : ∀ t : Fin grid0.N, _)
/-- The scales stand at block column `t`. -/
theorem index2 : ∀ t : Fin cfg0.N, win0_2.index t 0 = 0 ∧ win0_2.index t 1 = t.val := (by decide +kernel : ∀ t : Fin grid0.N, _)
/-- The zero points stand at block column `t`. -/
theorem index3 : ∀ t : Fin cfg0.N, win0_3.index t 0 = 0 ∧ win0_3.index t 1 = t.val := (by decide +kernel : ∀ t : Fin grid0.N, _)
/-- The table stands at block row `t`. -/
theorem index4 : ∀ t : Fin cfg0.N, win0_4.index t 0 = t.val ∧ win0_4.index t 1 = 0 := (by decide +kernel : ∀ t : Fin grid0.N, _)
/-- The given sum stands at block row `t`. -/
theorem index5 : ∀ t : Fin cfg0.N, win0_5.index t 0 = t.val ∧ win0_5.index t 1 = 0 := (by decide +kernel : ∀ t : Fin grid0.N, _)
/-- The result stands at block column `t`. -/
theorem index6 : ∀ t : Fin cfg0.N, win0_6.index t 0 = 0 ∧ win0_6.index t 1 = t.val := (by decide +kernel : ∀ t : Fin grid0.N, _)

/-- There are 43 points. -/
theorem point_lt (t : Fin cfg0.N) : t.val < 43 := by have h : t.val < grid0.N := t.isLt; rw [N_0] at h; exact h

/-- The input's block is the reshaped input. -/
theorem iblk0_apply (c : Dev nD) (t : Fin cfg0.N) (r : Fin 128) (k : Fin 4096) :
    (iblk m c 0 t : S128x4096.Idx → EReal) (ix2 r k) = (m ((c : Thread nD τ).loc main_arg0) : S128x1x4096.Idx → EReal) (ix3 r 0 k) := by
  obtain ⟨e0, e1⟩ := index0 t
  have hemb : ((cfg0.win 0).blk t).view.emb (ix2 r k : S128x4096.Idx) = (ix2 r k : S128x4096.Idx) := by
    funext a; apply Fin.ext
    match a with
    | ⟨0, _⟩ => show win0_0.index t 0 * 128 + 1 * r.val = r.val; omega
    | ⟨1, _⟩ => show win0_0.index t 1 * 4096 + 1 * k.val = k.val; omega
  show V m c main_v0 (((cfg0.win 0).blk t).view.emb (ix2 r k : S128x4096.Idx)) = _
  rw [hemb, V_main_v0]
  exact shapeCast_apply (s := S128x1x4096) (t := S128x4096) _ _ (ix2 r k) (ix3 r 0 k) (by
    rw [Shape.rowMajor_val_three, Shape.rowMajor_val_two]
    show (r.val * 1 + 0) * 4096 + k.val = r.val * 4096 + k.val
    omega)

/-- The packed weights' block: 256 columns from `256 t`. -/
theorem iblk1_apply (c : Dev nD) (t : Fin cfg0.N) (r : Fin 2048) (l : Fin 256) :
    (iblk m c 1 t : S2048x256.Idx → BitVec 8) (ix2 r l)
      = (m ((c : Thread nD τ).loc main_arg1) : S2048x11008.Idx → BitVec 8) (ix2 r ⟨256 * t.val + l.val, by have := point_lt t; omega⟩) := by
  obtain ⟨e0, e1⟩ := index1 t
  have hemb : ((cfg0.win 1).blk t).view.emb (ix2 r l : S2048x256.Idx)
      = (ix2 r ⟨256 * t.val + l.val, by have := point_lt t; omega⟩ : S2048x11008.Idx) := by
    funext a; apply Fin.ext
    match a with
    | ⟨0, _⟩ => show win0_1.index t 0 * 2048 + 1 * r.val = r.val; omega
    | ⟨1, _⟩ => show win0_1.index t 1 * 256 + 1 * l.val = 256 * t.val + l.val; omega
  show V m c main_arg1 (((cfg0.win 1).blk t).view.emb (ix2 r l : S2048x256.Idx)) = _
  rw [hemb, V_main_arg1]

/-- The scales' block: 256 columns from `256 t`. -/
theorem iblk2_apply (c : Dev nD) (t : Fin cfg0.N) (r : Fin 256) (l : Fin 256) :
    (iblk m c 2 t : S256x256.Idx → EReal) (ix2 r l)
      = (m ((c : Thread nD τ).loc main_arg2) : S256x11008.Idx → EReal) (ix2 r ⟨256 * t.val + l.val, by have := point_lt t; omega⟩) := by
  obtain ⟨e0, e1⟩ := index2 t
  have hemb : ((cfg0.win 2).blk t).view.emb (ix2 r l : S256x256.Idx)
      = (ix2 r ⟨256 * t.val + l.val, by have := point_lt t; omega⟩ : S256x11008.Idx) := by
    funext a; apply Fin.ext
    match a with
    | ⟨0, _⟩ => show win0_2.index t 0 * 256 + 1 * r.val = r.val; omega
    | ⟨1, _⟩ => show win0_2.index t 1 * 256 + 1 * l.val = 256 * t.val + l.val; omega
  show V m c main_arg2 (((cfg0.win 2).blk t).view.emb (ix2 r l : S256x256.Idx)) = _
  rw [hemb, V_main_arg2]

/-- The zero points' block: 256 columns from `256 t`. -/
theorem iblk3_apply (c : Dev nD) (t : Fin cfg0.N) (r : Fin 256) (l : Fin 256) :
    (iblk m c 3 t : S256x256.Idx → BitVec 8) (ix2 r l)
      = (m ((c : Thread nD τ).loc main_arg3) : S256x11008.Idx → BitVec 8) (ix2 r ⟨256 * t.val + l.val, by have := point_lt t; omega⟩) := by
  obtain ⟨e0, e1⟩ := index3 t
  have hemb : ((cfg0.win 3).blk t).view.emb (ix2 r l : S256x256.Idx)
      = (ix2 r ⟨256 * t.val + l.val, by have := point_lt t; omega⟩ : S256x11008.Idx) := by
    funext a; apply Fin.ext
    match a with
    | ⟨0, _⟩ => show win0_3.index t 0 * 256 + 1 * r.val = r.val; omega
    | ⟨1, _⟩ => show win0_3.index t 1 * 256 + 1 * l.val = 256 * t.val + l.val; omega
  show V m c main_arg3 (((cfg0.win 3).blk t).view.emb (ix2 r l : S256x256.Idx)) = _
  rw [hemb, V_main_arg3]

/-- The table's block: 1024 rows from `1024 t`. -/
theorem iblk4_apply (c : Dev nD) (t : Fin cfg0.N) (r : Fin 1024) (l : Fin 128) :
    (iblk m c 4 t : S1024x128.Idx → BitVec 32) (ix2 r l)
      = (m ((c : Thread nD τ).loc main_arg4) : S44032x128.Idx → BitVec 32) (ix2 ⟨1024 * t.val + r.val, by have := point_lt t; omega⟩ l) := by
  obtain ⟨e0, e1⟩ := index4 t
  have hemb : ((cfg0.win 4).blk t).view.emb (ix2 r l : S1024x128.Idx)
      = (ix2 ⟨1024 * t.val + r.val, by have := point_lt t; omega⟩ l : S44032x128.Idx) := by
    funext a; apply Fin.ext
    match a with
    | ⟨0, _⟩ => show win0_4.index t 0 * 1024 + 1 * r.val = 1024 * t.val + r.val; omega
    | ⟨1, _⟩ => show win0_4.index t 1 * 128 + 1 * l.val = l.val; omega
  show V m c main_arg4 (((cfg0.win 4).blk t).view.emb (ix2 r l : S1024x128.Idx)) = _
  rw [hemb, V_main_arg4]

/-- The given sum's block: 256 rows from `256 t`. -/
theorem iblk5_apply (c : Dev nD) (t : Fin cfg0.N) (r : Fin 256) (l : Fin 128) :
    (iblk m c 5 t : S256x128.Idx → EReal) (ix2 r l)
      = (m ((c : Thread nD τ).loc main_arg5) : S11008x128.Idx → EReal) (ix2 ⟨256 * t.val + r.val, by have := point_lt t; omega⟩ l) := by
  obtain ⟨e0, e1⟩ := index5 t
  have hemb : ((cfg0.win 5).blk t).view.emb (ix2 r l : S256x128.Idx)
      = (ix2 ⟨256 * t.val + r.val, by have := point_lt t; omega⟩ l : S11008x128.Idx) := by
    funext a; apply Fin.ext
    match a with
    | ⟨0, _⟩ => show win0_5.index t 0 * 256 + 1 * r.val = 256 * t.val + r.val; omega
    | ⟨1, _⟩ => show win0_5.index t 1 * 128 + 1 * l.val = l.val; omega
  show V m c main_arg5 (((cfg0.win 5).blk t).view.emb (ix2 r l : S256x128.Idx)) = _
  rw [hemb, V_main_arg5]

/-- What point `t` writes back is block `t` of the result. -/
theorem flushed_eq (c : Dev nD) (t : Fin cfg0.N) :
    (dats m 0 c).flushed 6 t = ((cfg0.win 6).blk t).view.read (Elt Ideal) (result m c) := by
  rw [Value.flushed6_A, Block.out_eq]
  obtain ⟨e0, e1⟩ := index6 t
  funext (j : S128x256.Idx)
  obtain ⟨r, l, rfl⟩ : ∃ (r : Fin 128) (l : Fin 256), j = ix2 r l :=
    ⟨j 0, j 1, by funext a; match a with | ⟨0, _⟩ => rfl | ⟨1, _⟩ => rfl⟩
  have hn : 256 * t.val + l.val < 11008 := by have := point_lt t; omega
  have hemb : ((cfg0.win 6).blk t).view.emb (ix2 r l : S128x256.Idx) = (ix2 r ⟨256 * t.val + l.val, hn⟩ : S128x11008.Idx) := by
    funext a; apply Fin.ext
    match a with
    | ⟨0, _⟩ => show win0_6.index t 0 * 128 + 1 * r.val = r.val; omega
    | ⟨1, _⟩ => show win0_6.index t 1 * 256 + 1 * l.val = 256 * t.val + l.val; omega
  show (Block.blockVal (F := Ideal) (iblk m c 0 t) (iblk m c 1 t) (iblk m c 2 t) (iblk m c 3 t) (iblk m c 4 t) (iblk m c 5 t) (ix2 r l) : EReal)
    = result m c (((cfg0.win 6).blk t).view.emb (ix2 r l : S128x256.Idx))
  rw [hemb]
  refine (Block.blockVal_apply _ _ _ _ _ _ r l).trans ?_
  show _ = merged _ _ _ _ _ _ r ⟨256 * t.val + l.val, hn⟩
  unfold merged
  refine congrArg₂ (· + ·) (iblk5_apply m c t l r) (Finset.sum_congr rfl fun K _ => ?_)
  have ho : outlier (N := 256) rfl rfl (iblk m c 4 t : S1024x128.Idx → BitVec 32) l K
      = outlier (N := 11008) rfl rfl (m ((c : Thread nD τ).loc main_arg4) : S44032x128.Idx → BitVec 32) ⟨256 * t.val + l.val, hn⟩ K := by
    unfold outlier
    refine congrArg (fun w => held w (K.val / 512)) ((iblk4_apply m c t _ _).trans ?_)
    refine congrArg (m ((c : Thread nD τ).loc main_arg4) : S44032x128.Idx → BitVec 32) (funext fun d => Fin.ext ?_)
    match d with
    | ⟨0, _⟩ =>
      show 1024 * t.val + row l.val K.val = row (256 * t.val + l.val) K.val
      unfold row; omega
    | ⟨1, _⟩ => show l.val % 128 = (256 * t.val + l.val) % 128; omega
  refine congrArg₂ (· * ·) (iblk0_apply m c t r K) (congrArg₂ (· + ·) ?_ ho)
  unfold weight
  exact congrArg₂ (· * ·) (congrArg₂ (fun b z => code b K.val - num z) (iblk1_apply m c t _ l) (iblk3_apply m c t _ l))
      (iblk2_apply m c t _ l)

/-- An index of the result lies in the block of its column. -/
theorem cover (i : S128x11008.Idx) : ∃ t : Fin cfg0.N, (cfg0.win 6).flush t = true ∧ i ∈ ((cfg0.win 6).blk t).view.set := by
  have h0 : (i 0).val < 128 := (i 0).isLt
  have h1 : (i 1).val < 11008 := (i 1).isLt
  have hN : cfg0.N = 43 := N_0
  let t : Fin cfg0.N := ⟨(i 1).val / 256, by omega⟩
  have ht : t.val = (i 1).val / 256 := rfl
  obtain ⟨e0, e1⟩ := index6 t
  refine ⟨t, flush0_6 _, ?_⟩
  show i ∈ ((View.whole main_v1).slice (win0_6.rect t)).set
  rw [View.set_slice_whole, Rect.mem_set_unit]
  intro a
  match a with
  | ⟨0, _⟩ =>
    show win0_6.index t 0 * 128 ≤ (i 0).val ∧ (i 0).val < win0_6.index t 0 * 128 + 128
    omega
  | ⟨1, _⟩ =>
    show win0_6.index t 1 * 256 ≤ (i 1).val ∧ (i 1).val < win0_6.index t 1 * 256 + 256
    omega

/-- The result array after the run. -/
theorem final (c : Dev nD) : (dats m 0 c).arrAt 6 cfg0.N = result m c :=
  (dats m 0 c).arrAt_eq_of_cover 6 (result m c) (fun t _ => flushed_eq m c t) cover

end Cert.KernelIdeal.Array

end
-- ==== Proof.RefSum.lean ====
module

public import proofs.«01_k».proof.Proof.Gen.ReferenceIdeal.Run
public import proofs.«01_k».proof.Proof.Spec
public import Idealize.ShloMosaic.Lib.StackMember

@[expose] public section

set_option maxRecDepth 16384

noncomputable section

namespace Cert.ReferenceIdeal.Sum

open Idealize.ShloMosaic hiding ix2 ix3 ix5
open Cert.ReferenceIdeal Cert.ReferenceIdeal.Gen Idealize.ShloMosaic.TcCoe Idealize.SL.Sem
open Idealize.ShloMosaic.ValueIdx Cert.Spec
open scoped BigOperators

/-- A row of 256 rows repeated over the eight byte rows of its group. -/
theorem spread_apply (z : FVec Ideal S256x11008 .bf16) (g : Fin 256) (a : Fin 8) (n : Fin 11008) :
    broadcastInDim S256x8x11008 ![0, 1, 2] bcast_S256x1x11008_S256x8x11008_0_1_2
      (broadcastInDim S256x1x11008 ![0, 2] bcast_S256x11008_S256x1x11008_0_2 z) (ix3 g a n) = z (ix2 g n) := by
  rw [broadcastInDim_apply _ _ _ _ (ix3 g 0 n) (fun b => by fin_cases b <;> rfl),
    broadcastInDim_apply _ _ _ _ (ix2 g n) (fun b => by fin_cases b <;> rfl)]

/-- One field of the bytes as dequantised rows: the numbers `c`, minus the zero points, times the scales. -/
theorem field_apply (c : FVec Ideal S2048x11008 .bf16) (z s : FVec Ideal S256x11008 .bf16) (k : Fin 2048) (n : Fin 11008) :
    shapeCast S2048x11008 (mulf (subf (shapeCast S256x8x11008 c shapeCasts_S2048x11008_S256x8x11008)
        (broadcastInDim S256x8x11008 ![0, 1, 2] bcast_S256x1x11008_S256x8x11008_0_1_2
          (broadcastInDim S256x1x11008 ![0, 2] bcast_S256x11008_S256x1x11008_0_2 z)))
        (broadcastInDim S256x8x11008 ![0, 1, 2] bcast_S256x1x11008_S256x8x11008_0_1_2
          (broadcastInDim S256x1x11008 ![0, 2] bcast_S256x11008_S256x1x11008_0_2 s)))
        shapeCasts_S256x8x11008_S2048x11008 (ix2 k n)
      = (c (ix2 k n) - z (ix2 ⟨k.val / 8, by omega⟩ n)) * s (ix2 ⟨k.val / 8, by omega⟩ n) := by
  rw [shapeCast_apply _ _ (ix2 k n) (ix3 ⟨k.val / 8, by omega⟩ ⟨k.val % 8, by omega⟩ n) (by
      rw [Shape.rowMajor_val_three, Shape.rowMajor_val_two]
      show (k.val / 8 * 8 + k.val % 8) * 11008 + n.val = k.val * 11008 + n.val
      omega)]
  rw [mulf_apply, subf_apply, spread_apply, spread_apply, shapeCast_apply _ _ _ (ix2 k n) (by
      rw [Shape.rowMajor_val_three, Shape.rowMajor_val_two]
      show k.val * 11008 + n.val = (k.val / 8 * 8 + k.val % 8) * 11008 + n.val
      omega)]

/-- The product over one parity of the input's columns. -/
theorem dot_apply (x : FVec Ideal S128x1x2048 .bf16) (w : FVec Ideal S2048x11008 .bf16) (r : Fin 128) (n : Fin 11008) :
    (Host.dotGeneral dot_S128x1x2048_S2048x11008_S128x1x11008_2_0_01_1_n_n none x w : FVec Ideal S128x1x11008 .f32) (ix3 r 0 n)
      = ∑ k : Fin 2048, x (ix3 r 0 k) * w (ix2 k n) := by
  simp only [Host.dotGeneral]
  rw [Ideal.dotGeneral_apply, ← Equiv.sum_comp (contrEquiv1 dot_S128x1x2048_S2048x11008_S128x1x11008_2_0_01_1_n_n 2048 rfl rfl).symm]
  refine Finset.sum_congr rfl fun k _ => ?_
  have hk := contrEquiv1_symm_val dot_S128x1x2048_S2048x11008_S128x1x11008_2_0_01_1_n_n 2048 rfl rfl k
  have el : dot_S128x1x2048_S2048x11008_S128x1x11008_2_0_01_1_n_n.lhsIdx (ix3 r 0 n)
      ((contrEquiv1 dot_S128x1x2048_S2048x11008_S128x1x11008_2_0_01_1_n_n 2048 rfl rfl).symm k) = ix3 r 0 k := by
    funext a; apply Fin.ext
    match a with
    | ⟨0, _⟩ => rfl
    | ⟨1, _⟩ => rfl
    | ⟨2, _⟩ => exact hk
  have er : dot_S128x1x2048_S2048x11008_S128x1x11008_2_0_01_1_n_n.rhsIdx (ix3 r 0 n)
      ((contrEquiv1 dot_S128x1x2048_S2048x11008_S128x1x11008_2_0_01_1_n_n 2048 rfl rfl).symm k) = ix2 k n := by
    funext a; apply Fin.ext
    match a with
    | ⟨0, _⟩ => exact hk
    | ⟨1, _⟩ => rfl
  rw [el, er]

/-- Every second column of the input, from column `p` on. -/
theorem slice_apply (x : FVec Ideal S128x1x4096 .bf16) (p : ℕ) (hp : p < 2) (h : S128x1x4096.SlicesBy ![0, 0, p] ![1, 1, 2] S128x1x2048)
    (r : Fin 128) (k : Fin 2048) :
    Host.slice S128x1x2048 ![0, 0, p] ![1, 1, 2] x h (ix3 r 0 k) = x (ix3 r 0 ⟨2 * k.val + p, by omega⟩) := by
  refine congrArg x (funext fun a => Fin.ext ?_)
  match a with
  | ⟨0, _⟩ => show 0 + 1 * r.val = r.val; omega
  | ⟨1, _⟩ => rfl
  | ⟨2, _⟩ => show p + 2 * k.val = 2 * k.val + p; omega

/-- The table's words as rows of features and columns. -/
def words (T : IVec S44032x128 32) : IVec S512x11008 32 :=
  shapeCast S512x11008 (transpose S32x8x2x86x128 [1, 3, 2, 0, 4] (shapeCast S86x32x2x8x128 T shapeCasts_S44032x128_S86x32x2x8x128) transposes_S86x32x2x8x128_S32x8x2x86x128_1_3_2_0_4) shapeCasts_S32x8x2x86x128_S512x11008

/-- Row `f` of the words of column `n`. -/
theorem words_apply (T : IVec S44032x128 32) (f : Fin 512) (n : Fin 11008) :
    words T (ix2 f n) = T (ix2 ⟨row n.val f.val, row_lt rfl rfl n f.val⟩ ⟨n.val % 128, Nat.mod_lt _ (by decide)⟩) := by
  have hf := f.isLt
  have hn := n.isLt
  unfold words
  rw [shapeCast_apply _ _ (ix2 f n) (ix5 ⟨f.val / 16, by omega⟩ ⟨f.val % 16 / 2, by omega⟩ ⟨f.val % 2, by omega⟩
      ⟨n.val / 128, by omega⟩ ⟨n.val % 128, by omega⟩) (by
      rw [Shape.rowMajor_val_five, Shape.rowMajor_val_two]
      show (((f.val / 16 * 8 + f.val % 16 / 2) * 2 + f.val % 2) * 86 + n.val / 128) * 128 + n.val % 128 = f.val * 11008 + n.val
      omega),
    transpose_apply _ _ _ _ (ix5 ⟨n.val / 128, by omega⟩ ⟨f.val / 16, by omega⟩ ⟨f.val % 2, by omega⟩ ⟨f.val % 16 / 2, by omega⟩
      ⟨n.val % 128, by omega⟩) (fun b => by fin_cases b <;> rfl),
    shapeCast_apply _ _ _ (ix2 ⟨row n.val f.val, row_lt rfl rfl n f.val⟩ ⟨n.val % 128, Nat.mod_lt _ (by decide)⟩) (by
      rw [Shape.rowMajor_val_five, Shape.rowMajor_val_two]
      show row n.val f.val * 128 + n.val % 128 = (((n.val / 128 * 32 + f.val / 16) * 2 + f.val % 2) * 8 + f.val % 16 / 2) * 128 + n.val % 128
      unfold row
      omega)]

/-- The outliers of the words, for each of the eight features of a word. -/
def outlierText (V : IVec S512x11008 32) : FVec Ideal S4096x11008 .bf16 :=
  shapeCast S4096x11008 (select (cmpi .eq (broadcastInDim S8x512x11008 ![0, 1, 2] bcast_S1x512x11008_S8x512x11008_0_1_2 (broadcastInDim S1x512x11008 ![1, 2] bcast_S512x11008_S1x512x11008_1_2 (andi V (broadcastInDim S512x11008 ![] bcast_S_S512x11008 (constantI S_ 32 65535#32))))) (broadcastInDim S8x512x11008 ![0, 1, 2] bcast_S8x1x1_S8x512x11008_0_1_2 (addi (broadcastInDim S8x1x1 ![0] bcast_S8_S8x1x1_0 (iotaInDim S8 32 0)) (broadcastInDim S8x1x1 ![] bcast_S_S8x1x1 (constantI S_ 32 8#32))))) (broadcastInDim S8x512x11008 ![0, 1, 2] bcast_S1x512x11008_S8x512x11008_0_1_2 (broadcastInDim S1x512x11008 ![1, 2] bcast_S512x11008_S1x512x11008_1_2 (bitcastToFloat (F := Ideal) .bf16 (trunci 16 (Host.shrui V (broadcastInDim S512x11008 ![] bcast_S_S512x11008 (constantI S_ 32 16#32))) natLt_16_32)))) (broadcastInDim S8x512x11008 ![] bcast_S_S8x512x11008 (constant S_ .bf16 0x0000#16))) shapeCasts_S8x512x11008_S4096x11008

/-- A row of words repeated for the eight features. -/
theorem stack_apply {α : Type} (v : S512x11008.Idx → α) (p : Fin 8) (f : Fin 512) (n : Fin 11008) :
    broadcastInDim S8x512x11008 ![0, 1, 2] bcast_S1x512x11008_S8x512x11008_0_1_2
      (broadcastInDim S1x512x11008 ![1, 2] bcast_S512x11008_S1x512x11008_1_2 v) (ix3 p f n) = v (ix2 f n) := by
  rw [broadcastInDim_apply _ _ _ _ (ix3 0 f n) (fun b => by fin_cases b <;> rfl),
    broadcastInDim_apply _ _ _ _ (ix2 f n) (fun b => by fin_cases b <;> rfl)]

/-- The place that each of the eight features has in a word. -/
theorem place_apply (p : Fin 8) (f : Fin 512) (n : Fin 11008) :
    broadcastInDim S8x512x11008 ![0, 1, 2] bcast_S8x1x1_S8x512x11008_0_1_2 (addi (broadcastInDim S8x1x1 ![0] bcast_S8_S8x1x1_0 (iotaInDim S8 32 0)) (broadcastInDim S8x1x1 ![] bcast_S_S8x1x1 (constantI S_ 32 8#32))) (ix3 p f n)
      = BitVec.ofNat 32 p.val + 8#32 := by
  rw [broadcastInDim_apply _ _ _ _ (ix3 p 0 0) (fun b => by fin_cases b <;> rfl)]
  show (broadcastInDim S8x1x1 ![0] bcast_S8_S8x1x1_0 (iotaInDim S8 32 0)) (ix3 p 0 0) + 8#32 = _
  rw [broadcastInDim_apply _ _ _ _ ((fun a => match a with | ⟨0, _⟩ => p) : S8.Idx) (fun b => by fin_cases b; rfl)]
  rfl

/-- The outlier of a feature and a column. -/
theorem outlierText_apply (V : IVec S512x11008 32) (K : Fin 4096) (n : Fin 11008) :
    outlierText V (ix2 K n) = held (V (ix2 ⟨K.val % 512, by omega⟩ n)) (K.val / 512) := by
  have hK := K.isLt
  unfold outlierText
  rw [shapeCast_apply _ _ (ix2 K n) (ix3 ⟨K.val / 512, by omega⟩ ⟨K.val % 512, by omega⟩ n) (by
      rw [Shape.rowMajor_val_three, Shape.rowMajor_val_two]
      show (K.val / 512 * 512 + K.val % 512) * 11008 + n.val = K.val * 11008 + n.val
      omega)]
  rw [select_apply, cmpi_apply, stack_apply, stack_apply, place_apply]
  generalize hw : V (ix2 ⟨K.val % 512, by omega⟩ n) = w
  show Scalar.select (BitVec.ofBool (V (ix2 ⟨K.val % 512, by omega⟩ n) &&& 65535#32 == BitVec.ofNat 32 (K.val / 512) + 8#32))
    (FloatOps.ofBits (F := Ideal) .bf16 ((V (ix2 ⟨K.val % 512, by omega⟩ n) >>> 16).setWidth 16)) (FloatOps.ofBits (F := Ideal) .bf16 0x0000#16) = _
  rw [hw]
  unfold held
  by_cases h : w.setWidth 16 = BitVec.ofNat 16 (8 + K.val / 512)
  · rw [if_pos h, beq_iff_eq.mpr ((tag_iff w (K.val / 512) (by omega)).mpr h)]
    rfl
  · rw [if_neg h, beq_eq_false_iff_ne.mpr (fun e => h ((tag_iff w (K.val / 512) (by omega)).mp e))]
    rfl

/-- The dense part of the reference's text. -/
def denseText (X : FVec Ideal S128x1x4096 .bf16) (W : IVec S2048x11008 8) (S : FVec Ideal S256x11008 .bf16) (Z : IVec S256x11008 8) :
    FVec Ideal S128x11008 .f32 :=
  shapeCast S128x11008 (addf (Host.dotGeneral dot_S128x1x2048_S2048x11008_S128x1x11008_2_0_01_1_n_n none (Host.slice S128x1x2048 ![0, 0, 0] ![1, 1, 2] X slicesBy_S128x1x4096_S128x1x2048_0s1_0s1_0s2) (shapeCast S2048x11008 (mulf (subf (shapeCast S256x8x11008 (sitofp .bf16 (andi (extui 32 W natLt_8_32) (broadcastInDim S2048x11008 ![] bcast_S_S2048x11008 (constantI S_ 32 15#32)))) shapeCasts_S2048x11008_S256x8x11008) (broadcastInDim S256x8x11008 ![0, 1, 2] bcast_S256x1x11008_S256x8x11008_0_1_2 (broadcastInDim S256x1x11008 ![0, 2] bcast_S256x11008_S256x1x11008_0_2 (sitofp .bf16 (extui 32 Z natLt_8_32))))) (broadcastInDim S256x8x11008 ![0, 1, 2] bcast_S256x1x11008_S256x8x11008_0_1_2 (broadcastInDim S256x1x11008 ![0, 2] bcast_S256x11008_S256x1x11008_0_2 S))) shapeCasts_S256x8x11008_S2048x11008))
      (Host.dotGeneral dot_S128x1x2048_S2048x11008_S128x1x11008_2_0_01_1_n_n none (Host.slice S128x1x2048 ![0, 0, 1] ![1, 1, 2] X slicesBy_S128x1x4096_S128x1x2048_0s1_0s1_1s2) (shapeCast S2048x11008 (mulf (subf (shapeCast S256x8x11008 (sitofp .bf16 (Host.shrsi (extui 32 W natLt_8_32) (broadcastInDim S2048x11008 ![] bcast_S_S2048x11008 (constantI S_ 32 4#32)))) shapeCasts_S2048x11008_S256x8x11008) (broadcastInDim S256x8x11008 ![0, 1, 2] bcast_S256x1x11008_S256x8x11008_0_1_2 (broadcastInDim S256x1x11008 ![0, 2] bcast_S256x11008_S256x1x11008_0_2 (sitofp .bf16 (extui 32 Z natLt_8_32))))) (broadcastInDim S256x8x11008 ![0, 1, 2] bcast_S256x1x11008_S256x8x11008_0_1_2 (broadcastInDim S256x1x11008 ![0, 2] bcast_S256x11008_S256x1x11008_0_2 S))) shapeCasts_S256x8x11008_S2048x11008))) shapeCasts_S128x1x11008_S128x11008

/-- The dense part at an index. -/
theorem denseText_apply (X : FVec Ideal S128x1x4096 .bf16) (W : IVec S2048x11008 8) (S : FVec Ideal S256x11008 .bf16) (Z : IVec S256x11008 8)
    (r : Fin 128) (n : Fin 11008) : denseText X W S Z (ix2 r n) = dense X W S Z r n := by
  unfold denseText
  rw [shapeCast_apply _ _ (ix2 r n) (ix3 r 0 n) (by
      rw [Shape.rowMajor_val_three, Shape.rowMajor_val_two]
      show (r.val * 1 + 0) * 11008 + n.val = r.val * 11008 + n.val
      omega)]
  rw [addf_apply, dot_apply, dot_apply]
  unfold dense
  rw [sum_parity]
  have e8 : ∀ k : ℕ, 2 * k / 16 = k / 8 := fun k => by omega
  have o8 : ∀ k : ℕ, (2 * k + 1) / 16 = k / 8 := fun k => by omega
  have e2 : ∀ k : ℕ, 2 * k / 2 = k := fun k => by omega
  have o2 : ∀ k : ℕ, (2 * k + 1) / 2 = k := fun k => by omega
  have em : ∀ k : ℕ, 2 * k % 2 = 0 := fun k => by omega
  have om : ∀ k : ℕ, (2 * k + 1) % 2 = 1 := fun k => by omega
  congr 1
  · refine Finset.sum_congr rfl fun k _ => ?_
    rw [slice_apply X 0 (by decide), field_apply]
    unfold weight code
    simp only [e8, e2, em, if_true, Nat.add_zero]
    rfl
  · refine Finset.sum_congr rfl fun k _ => ?_
    rw [slice_apply X 1 (by decide), field_apply]
    unfold weight code
    simp only [o8, o2, om, one_ne_zero, if_false]
    rfl

/-- The reference's text, of its six arguments. -/
def text (X : FVec Ideal S128x1x4096 .bf16) (W : IVec S2048x11008 8) (S : FVec Ideal S256x11008 .bf16) (Z : IVec S256x11008 8)
    (T : IVec S44032x128 32) (Y : FVec Ideal S11008x128 .f32) : FVec Ideal S128x11008 .bf16 :=
  truncf .bf16 (addf (addf (denseText X W S Z) (Host.dotGeneral dot_S128x4096_S4096x11008_S128x11008_1_0_0_1_n_n none (extf .f32 (shapeCast S128x4096 X shapeCasts_S128x1x4096_S128x4096) bitsLt_bf16_f32) (extf .f32 (outlierText (words T)) bitsLt_bf16_f32))) (transpose S128x11008 [1, 0] Y transposes_S11008x128_S128x11008_1_0)) bitsLt_bf16_f32

/-- The reference's text at an index. -/
theorem text_apply (X : FVec Ideal S128x1x4096 .bf16) (W : IVec S2048x11008 8) (S : FVec Ideal S256x11008 .bf16) (Z : IVec S256x11008 8)
    (T : IVec S44032x128 32) (Y : FVec Ideal S11008x128 .f32) (r : Fin 128) (n : Fin 11008) :
    text X W S Z T Y (ix2 r n) = dense X W S Z r n + sparse X T r n + Y (ix2 n r) := by
  unfold text
  rw [truncf_apply, addf_apply, addf_apply, denseText_apply,
    transpose_apply _ _ _ _ (ix2 n r) (fun b => by fin_cases b <;> rfl)]
  refine congrArg (fun z => dense X W S Z r n + z + Y (ix2 n r)) ?_
  refine (StackMember.dotGeneral_plain_apply (m := 128) (k := 4096) (n := 11008) none _ _ r n).trans ?_
  unfold sparse outlier
  refine Finset.sum_congr rfl fun K _ => ?_
  rw [extf_apply, shapeCast_apply _ _ (ix2 r K) (ix3 r 0 K) (by
      rw [Shape.rowMajor_val_three, Shape.rowMajor_val_two]
      show (r.val * 1 + 0) * 4096 + K.val = r.val * 4096 + K.val
      omega), extf_apply, outlierText_apply, words_apply]
  have e : row n.val (K.val % 512) = row n.val K.val := by
    have := K.isLt
    unfold row
    omega
  simp only [e]

variable (m : (ℓ : Loc nD τ sig) → Buf (Elt Ideal) ℓ) (ρ : Dev nD → PrngReg)

/-- The result the reference computes: the dense product, plus the outliers' product, plus the given sum. -/
def result (c : Dev nD) : Buf (Elt Ideal) ((c : Thread nD τ).loc main_v58) := fun (j : S128x11008.Idx) =>
  dense (m ((c : Thread nD τ).loc main_arg0)) (m ((c : Thread nD τ).loc main_arg1)) (m ((c : Thread nD τ).loc main_arg2))
      (m ((c : Thread nD τ).loc main_arg3)) (j 0) (j 1)
    + sparse (m ((c : Thread nD τ).loc main_arg0)) (m ((c : Thread nD τ).loc main_arg4)) (j 0) (j 1)
    + (m ((c : Thread nD τ).loc main_arg5) : S11008x128.Idx → EReal) (ix2 (j 1) (j 0))

/-- The reference's text of its argument arrays is the result. -/
theorem text_eq (c : Dev nD) : text (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = result m c := by
  funext (j : S128x11008.Idx)
  obtain ⟨r, n, rfl⟩ : ∃ (r : Fin 128) (n : Fin 11008), j = ix2 r n :=
    ⟨j 0, j 1, by funext a; match a with | ⟨0, _⟩ => rfl | ⟨1, _⟩ => rfl⟩
  exact text_apply _ _ _ _ _ _ r n

end Cert.ReferenceIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite_operands
public import proofs.«01_k».proof.Proof.Finite
public import proofs.«01_k».proof.Proof.Array
public import proofs.«01_k».proof.Proof.RefSum
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference's frame: it terminates, its arguments end unchanged, and it has no semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories agreeing on the arguments, with finite activations and scales, the two results are one function of them. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hf : Cert.Pre_KernelIdeal_finite_operands (hPre_finite_operands := Cert.Pre_finite_operands.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Sum.result m' c = Cert.KernelIdeal.Array.result m c := by
  have h := Cert.Finite.real (self := Cert.Pre_finite_operands.Gen.facts) _ _ _ _ _ _ (hf c)
  unfold Cert.ReferenceIdeal.Sum.result Cert.KernelIdeal.Array.result
  rw [h0, h1, h2, h3, h4, h5]
  funext j
  exact (Cert.Spec.merged_eq _ _ _ _ _ _ h.1 h.2 _ _).symm

/-- The kernel's array and the reference's, from agreeing arguments with finite activations and scales, are equal. -/
theorem algebraic : Cert.algebraic_KernelIdeal_ReferenceIdeal_pre_finite_operands (hKernelIdeal := Cert.KernelIdeal.Gen.facts)
    (hReferenceIdeal := Cert.ReferenceIdeal.Gen.facts) (hPre_finite_operands := Cert.Pre_finite_operands.Gen.facts) :=
  fun m ρ m' ρ' hf hag =>
  ⟨fun c => Cert.KernelIdeal.Array.result m c,
    (θ_run Cert.KernelIdeal.defs _ _).mono (fun _ h c => ⟨(h c).1.trans (Cert.KernelIdeal.Array.final m c), (h c).2⟩)
      (Cert.KernelIdeal.Value.run_blocks (F := Ideal) m ρ),
    (θ_run Cert.ReferenceIdeal.defs _ _).mono (fun _ h c =>
        ⟨((h c).1.trans (Cert.ReferenceIdeal.Sum.text_eq m' c)).trans
          (result_eq m m' c hf (hag c).1 (hag c).2.1 (hag c).2.2.1 (hag c).2.2.2.1 (hag c).2.2.2.2.1 (hag c).2.2.2.2.2), (h c).2⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  Cert.Pre_finite_operands.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
